-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_arguments [hPre_finite_arguments : Cert.Pre_finite_arguments.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_arguments.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_arguments [hPre_finite_arguments : Cert.Pre_finite_arguments.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_arguments.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite_arguments [hKernel3Ideal : Cert.Kernel3Ideal.Facts] [hPre_finite_arguments : Cert.Pre_finite_arguments.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_arguments m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite_arguments [hReference3Ideal : Cert.Reference3Ideal.Facts] [hPre_finite_arguments : Cert.Pre_finite_arguments.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_arguments m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_arguments [hKernel3Ideal : Cert.Kernel3Ideal.Facts] [hReference3Ideal : Cert.Reference3Ideal.Facts] [hPre_finite_arguments : Cert.Pre_finite_arguments.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_arguments m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v57_0)) (v1 : (c : Dev Cert.Kernel3Ideal.nD) → Buf (Elt Ideal) ((c.tc : Thread Cert.Kernel3Ideal.nD Cert.Kernel3Ideal.τ).loc Cert.Kernel3Ideal.main_v57_1)) (v2 : (c : Dev Cert.Kernel3Ideal.nD) → Buf (Elt Ideal) ((c.tc : Thread Cert.Kernel3Ideal.nD Cert.Kernel3Ideal.τ).loc Cert.Kernel3Ideal.main_v57_2)) (v3 : (c : Dev Cert.Kernel3Ideal.nD) → Buf (Elt Ideal) ((c.tc : Thread Cert.Kernel3Ideal.nD Cert.Kernel3Ideal.τ).loc Cert.Kernel3Ideal.main_v57_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v57_0) = v0 c
          ∧ r.2.mem ((c.tc : Thread Cert.Kernel3Ideal.nD Cert.Kernel3Ideal.τ).loc Cert.Kernel3Ideal.main_v57_1) = v1 c
          ∧ r.2.mem ((c.tc : Thread Cert.Kernel3Ideal.nD Cert.Kernel3Ideal.τ).loc Cert.Kernel3Ideal.main_v57_2) = v2 c
          ∧ r.2.mem ((c.tc : Thread Cert.Kernel3Ideal.nD Cert.Kernel3Ideal.τ).loc Cert.Kernel3Ideal.main_v57_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_v63) = v2 c
          ∧ r.2.mem ((c.tc : Thread Cert.Reference3Ideal.nD Cert.Reference3Ideal.τ).loc Cert.Reference3Ideal.main_v66) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_logits : Cert.Pre_finite_logits.Facts) (hPre_finite_arguments : Cert.Pre_finite_arguments.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_arguments (hKernel3Ideal := hKernel3Ideal) (hPre_finite_arguments := hPre_finite_arguments)
    ∧ quiescent_Reference3Ideal (hReference3Ideal := hReference3Ideal)
    ∧ quiescent_Reference3Ideal_pre_finite_arguments (hReference3Ideal := hReference3Ideal) (hPre_finite_arguments := hPre_finite_arguments)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_arguments (hKernel3Ideal := hKernel3Ideal) (hReference3Ideal := hReference3Ideal) (hPre_finite_arguments := hPre_finite_arguments)
-- ==== Pre_finite_arguments.lean ====
abbrev S16x2048x1024 : Shape := ⟨3, ![16, 2048, 1024]⟩
abbrev S1x1024 : Shape := ⟨2, ![1, 1024]⟩
abbrev S1x1024x7184 : Shape := ⟨3, ![1, 1024, 7184]⟩
abbrev S1x16 : Shape := ⟨2, ![1, 16]⟩
abbrev S1x16x64 : Shape := ⟨3, ![1, 16, 64]⟩
abbrev S1x31x1024 : Shape := ⟨3, ![1, 31, 1024]⟩
abbrev S_ : Shape := ⟨0, ![]⟩
abbrev S1x1024x1024 : Shape := ⟨3, ![1, 1024, 1024]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x7184_S1x1024x1024_0_0_3088 : S1x1024x7184.Slices ![0, 0, 3088] S1x1024x1024
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn {F : FTy → Type} [FloatOps F] (main_arg0 : FVec F S16x2048x1024 .f32) (main_arg1 : FVec F S1x1024 .f32) (main_arg2 : FVec F S1x1024x7184 .f32) (main_arg3 : FVec F S1x16 .f32) (main_arg4 : FVec F S1x16x64 .f32) (main_arg5 : FVec F S1x16x64 .f32) (main_arg6 : FVec F S1x31x1024 .f32) (main_arg7 : FVec F S1x1024 .f32) (main_arg8 : FVec F S1x1024 .f32) (main_arg9 : FVec F S1x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x1024 .f32 := (extractStridedSlice S1x1024x1024 ![0, 0, 3088] · slices_S1x1024x7184_S1x1024x1024_0_0_3088) main_arg2
  let main_v5 : FVec F S1x1024x1024 .f32 := Host.absf main_v4
  let main_cst_0 : FVec F S_ .f32 := constant S_ .f32 0x7F800000#32
  let main_v6 : FVec F S1x1024x1024 .f32 := broadcastInDim S1x1024x1024 ![] bcast_S_S1x1024x1024 main_cst_0
  let main_v7 : IVec S1x1024x1024 1 := cmpf .olt main_v5 main_v6
  let main_c_1 : IVec S_ 1 := constantI S_ 1 1#1
  let main_v8 : IVec S_ 1 := (fun x v => Host.reduce IntOp.andi x v reducesTo_S1x1024x1024_S_d0_1_2 h_S_) main_v7 main_c_1
  let main_v9 : IVec S_ 1 := andi main_v3 main_v8
  main_v9
-- ==== Pre_finite_logits.lean ====
abbrev S8x32768x128 : Shape := ⟨3, ![8, 32768, 128]⟩
abbrev S32768x128 : Shape := ⟨2, ![32768, 128]⟩
abbrev S_ : Shape := ⟨0, ![]⟩

class Facts : Prop where
  bitsLt_bf16_f32 : FTy.bits .bf16 < FTy.bits .f32
  bcast_S_S8x32768x128 : S_.BroadcastsInDim S8x32768x128 (![] : Fin 0 → Fin S8x32768x128.rank)
  reducesTo_S8x32768x128_S_d0_1_2 : S8x32768x128.ReducesTo [0, 1, 2] S_
  h_S_ : 0 < S_.numel
  bcast_S_S32768x128 : S_.BroadcastsInDim S32768x128 (![] : Fin 0 → Fin S32768x128.rank)
  reducesTo_S32768x128_S_d0_1 : S32768x128.ReducesTo [0, 1] S_

variable [Facts]

def fn_part1 {F : FTy → Type} [FloatOps F] (main_v16 : IVec S_ 1) (main_v17 : FVec F S32768x128 .f32) : IVec S_ 1 :=
  let main_v18 : FVec F S32768x128 .f32 := Host.absf main_v17
  let main_cst_4 : FVec F S_ .f32 := constant S_ .f32 0x7F800000#32
  let main_v19 : FVec F S32768x128 .f32 := broadcastInDim S32768x128 ![] bcast_S_S32768x128 main_cst_4
  let main_v20 : IVec S32768x128 1 := cmpf .olt main_v18 main_v19
  let main_c_5 : IVec S_ 1 := constantI S_ 1 1#1
  let main_v21 : IVec S_ 1 := (fun x v => Host.reduce IntOp.andi x v reducesTo_S32768x128_S_d0_1 h_S_) main_v20 main_c_5
  let main_v22 : IVec S_ 1 := andi main_v16 main_v21
  main_v22

def fn {F : FTy → Type} [FloatOps F] (main_arg0 : FVec F S8x32768x128 .bf16) (main_arg1 : FVec F S8x32768x128 .bf16) (main_arg2 : FVec F S8x32768x128 .bf16) (main_arg3 : FVec F S32768x128 .bf16) (main_arg4 : FVec F S32768x128 .bf16) (main_arg5 : FVec F S8x32768x128 .bf16) : IVec S_ 1 :=
  let main_v0 : FVec F S8x32768x128 .f32 := (extf .f32 · bitsLt_bf16_f32) main_arg0
  let main_v1 : FVec F S8x32768x128 .f32 := Host.absf main_v0
  let main_cst : FVec F S_ .f32 := constant S_ .f32 0x7F800000#32
  let main_v2 : FVec F S8x32768x128 .f32 := broadcastInDim S8x32768x128 ![] bcast_S_S8x32768x128 main_cst
  let main_v3 : IVec S8x32768x128 1 := cmpf .olt main_v1 main_v2
  let main_c : IVec S_ 1 := constantI S_ 1 1#1
  let main_v4 : IVec S_ 1 := (fun x v => Host.reduce IntOp.andi x v reducesTo_S8x32768x128_S_d0_1_2 h_S_) main_v3 main_c
  let main_v5 : FVec F S8x32768x128 .f32 := (extf .f32 · bitsLt_bf16_f32) main_arg1
  let main_v6 : FVec F S8x32768x128 .f32 := Host.absf main_v5
  let main_cst_0 : FVec F S_ .f32 := constant S_ .f32 0x7F800000#32
  let main_v7 : FVec F S8x32768x128 .f32 := broadcastInDim S8x32768x128 ![] bcast_S_S8x32768x128 main_cst_0
  let main_v8 : IVec S8x32768x128 1 := cmpf .olt main_v6 main_v7
  let main_c_1 : IVec S_ 1 := constantI S_ 1 1#1
  let main_v9 : IVec S_ 1 := (fun x v => Host.reduce IntOp.andi x v reducesTo_S8x32768x128_S_d0_1_2 h_S_) main_v8 main_c_1
  let main_v10 : IVec S_ 1 := andi main_v4 main_v9
  let main_v11 : FVec F S32768x128 .f32 := (extf .f32 · bitsLt_bf16_f32) main_arg3
  let main_v12 : FVec F S32768x128 .f32 := Host.absf main_v11
  let main_cst_2 : FVec F S_ .f32 := constant S_ .f32 0x7F800000#32
  let main_v13 : FVec F S32768x128 .f32 := broadcastInDim S32768x128 ![] bcast_S_S32768x128 main_cst_2
  let main_v14 : IVec S32768x128 1 := cmpf .olt main_v12 main_v13
  let main_c_3 : IVec S_ 1 := constantI S_ 1 1#1
  let main_v15 : IVec S_ 1 := (fun x v => Host.reduce IntOp.andi x v reducesTo_S32768x128_S_d0_1 h_S_) main_v14 main_c_3
  let main_v16 : IVec S_ 1 := andi main_v10 main_v15
  let main_v17 : FVec F S32768x128 .f32 := (extf .f32 · bitsLt_bf16_f32) main_arg4
  fn_part1 (F := F) main_v16 main_v17
-- ==== Kernel.lean ====
abbrev S8x32768x128 : Shape := ⟨3, ![8, 32768, 128]⟩
abbrev S32768x128 : Shape := ⟨2, ![32768, 128]⟩
abbrev S1x2048x128 : Shape := ⟨3, ![1, 2048, 128]⟩
abbrev S2048x128 : Shape := ⟨2, ![2048, 128]⟩
abbrev S2x8x256x256 : Shape := ⟨4, ![2, 8, 256, 256]⟩
abbrev S8x160x256 : Shape := ⟨3, ![8, 160, 256]⟩
abbrev S2x2x256x256 : Shape := ⟨4, ![2, 2, 256, 256]⟩
abbrev S256x256 : Shape := ⟨2, ![256, 256]⟩
abbrev S8x2x256 : Shape := ⟨3, ![8, 2, 256]⟩
abbrev S128x1 : Shape := ⟨2, ![128, 1]⟩
abbrev S1x256x128 : Shape := ⟨3, ![1, 256, 128]⟩
abbrev S256x128 : Shape := ⟨2, ![256, 128]⟩
abbrev S128x256 : Shape := ⟨2, ![128, 256]⟩
abbrev S1x1x128x256 : Shape := ⟨4, ![1, 1, 128, 256]⟩
abbrev S64x256 : Shape := ⟨2, ![64, 256]⟩
abbrev S1x64x256 : Shape := ⟨3, ![1, 64, 256]⟩
abbrev S16x256 : Shape := ⟨2, ![16, 256]⟩
abbrev S1x16x256 : Shape := ⟨3, ![1, 16, 256]⟩
abbrev S1x1x256x256 : Shape := ⟨4, ![1, 1, 256, 256]⟩
abbrev S256 : Shape := ⟨1, ![256]⟩
abbrev S1x256 : Shape := ⟨2, ![1, 256]⟩
abbrev S1x1x256 : Shape := ⟨3, ![1, 1, 256]⟩
abbrev S1x80x256 : Shape := ⟨3, ![1, 80, 256]⟩
abbrev S80x256 : Shape := ⟨2, ![80, 256]⟩

abbrev nBuf : Space → Nat
  | .hbm => 7
  | .vmem => 20
  | .smem => 0
  | _ => 0

abbrev bufTy : (tb : Table) → Fin (tcTables nBuf tb) → BufTy
  | .hbm, ⟨0, _⟩ => ⟨S8x32768x128, .bf16⟩
  | .hbm, ⟨1, _⟩ => ⟨S8x32768x128, .bf16⟩
  | .hbm, ⟨2, _⟩ => ⟨S8x32768x128, .bf16⟩
  | .hbm, ⟨3, _⟩ => ⟨S32768x128, .bf16⟩
  | .hbm, ⟨4, _⟩ => ⟨S32768x128, .bf16⟩
  | .hbm, ⟨5, _⟩ => ⟨S8x32768x128, .bf16⟩
  | .hbm, ⟨6, _⟩ => ⟨S8x32768x128, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S2x8x256x256, .bf16⟩
  | .local _ .vmem, ⟨15, _⟩ => ⟨S8x160x256, .bf16⟩
  | .local _ .vmem, ⟨16, _⟩ => ⟨S2x2x256x256, .f32⟩
  | .local _ .vmem, ⟨17, _⟩ => ⟨S256x256, .f32⟩
  | .local _ .vmem, ⟨18, _⟩ => ⟨S8x160x256, .f32⟩
  | .local _ .vmem, ⟨19, _⟩ => ⟨S8x2x256, .f32⟩
  | _, _ => ⟨S8x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x32768x128 : Shape := ⟨3, ![8, 32768, 128]⟩
abbrev S32768x128 : Shape := ⟨2, ![32768, 128]⟩
abbrev S8x16x2048x2x64 : Shape := ⟨5, ![8, 16, 2048, 2, 64]⟩
abbrev S16x2048x8x2x64 : Shape := ⟨5, ![16, 2048, 8, 2, 64]⟩
abbrev S16x2048x16x64 : Shape := ⟨4, ![16, 2048, 16, 64]⟩
abbrev S16x2048x16x8 : Shape := ⟨4, ![16, 2048, 16, 8]⟩
abbrev S16x16x2048x2048 : Shape := ⟨4, ![16, 16, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S16x16x2048 : Shape := ⟨3, ![16, 16, 2048]⟩
abbrev S16x16x2048x1 : Shape := ⟨4, ![16, 16, 2048, 1]⟩
abbrev S16x16x64x2048 : Shape := ⟨4, ![16, 16, 64, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x32768x128, .bf16⟩
  | .hbm, ⟨1, _⟩ => ⟨S8x32768x128, .bf16⟩
  | .hbm, ⟨2, _⟩ => ⟨S8x32768x128, .bf16⟩
  | .hbm, ⟨3, _⟩ => ⟨S32768x128, .bf16⟩
  | .hbm, ⟨4, _⟩ => ⟨S32768x128, .bf16⟩
  | .hbm, ⟨5, _⟩ => ⟨S8x32768x128, .bf16⟩
  | .hbm, ⟨6, _⟩ => ⟨S8x32768x128, .f32⟩
  | .hbm, ⟨7, _⟩ => ⟨S8x16x2048x2x64, .f32⟩
  | .hbm, ⟨8, _⟩ => ⟨S16x2048x8x2x64, .f32⟩
  | .hbm, ⟨9, _⟩ => ⟨S16x2048x16x64, .f32⟩
  | .hbm, ⟨10, _⟩ => ⟨S8x32768x128, .f32⟩
  | .hbm, ⟨11, _⟩ => ⟨S8x16x2048x2x64, .f32⟩
  | .hbm, ⟨12, _⟩ => ⟨S16x2048x8x2x64, .f32⟩
  | .hbm, ⟨13, _⟩ => ⟨S16x2048x16x64, .f32⟩
  | .hbm, ⟨14, _⟩ => ⟨S8x32768x128, .f32⟩
  | .hbm, ⟨15, _⟩ => ⟨S8x16x2048x2x64, .f32⟩
  | .hbm, ⟨16, _⟩ => ⟨S16x2048x8x2x64, .f32⟩
  | .hbm, ⟨17, _⟩ => ⟨S16x2048x16x64, .f32⟩
  | .hbm, ⟨18, _⟩ => ⟨S8x32768x128, .f32⟩
  | .hbm, ⟨19, _⟩ => ⟨S8x16x2048x2x64, .f32⟩
  | .hbm, ⟨20, _⟩ => ⟨S16x2048x8x2x64, .f32⟩
  | .hbm, ⟨21, _⟩ => ⟨S16x2048x16x64, .f32⟩
  | .hbm, ⟨22, _⟩ => ⟨S32768x128, .f32⟩
  | .hbm, ⟨23, _⟩ => ⟨S16x2048x16x8, .f32⟩
  | .hbm, ⟨24, _⟩ => ⟨S32768x128, .f32⟩
  | .hbm, ⟨25, _⟩ => ⟨S16x2048x16x8, .f32⟩
  | .hbm, ⟨26, _⟩ => ⟨S16x16x2048x2048, .f32⟩
  | .hbm, ⟨27, _⟩ => ⟨S16x16x2048x2048, .f32⟩
  | .hbm, ⟨28, _⟩ => ⟨S16x16x2048x2048, .f32⟩
  | .hbm, ⟨29, _⟩ => ⟨S2048, .i32⟩
  | .hbm, ⟨30, _⟩ => ⟨S2048x1, .i32⟩
  | .hbm, ⟨31, _⟩ => ⟨S2048, .i32⟩
  | .hbm, ⟨32, _⟩ => ⟨S1x2048, .i32⟩
  | .hbm, ⟨33, _⟩ => ⟨S2048x2048, .i32⟩
  | .hbm, ⟨34, _⟩ => ⟨S2048x2048, .i32⟩
  | .hbm, ⟨35, _⟩ => ⟨S2048x2048, .i1⟩
  | .hbm, ⟨36, _⟩ => ⟨S_, .f32⟩
  | .hbm, ⟨37, _⟩ => ⟨S_, .f32⟩
  | .hbm, ⟨38, _⟩ => ⟨S16x16x2048x2048, .f32⟩
  | .hbm, ⟨39, _⟩ => ⟨S16x16x2048x2048, .f32⟩
  | .hbm, ⟨40, _⟩ => ⟨S_, .f32⟩
  | .hbm, ⟨41, _⟩ => ⟨S_, .f32⟩
  | .hbm, ⟨42, _⟩ => ⟨S16x16x2048x2048, .i1⟩
  | .hbm, ⟨43, _⟩ => ⟨S16x16x2048x2048, .f32⟩
  | .hbm, ⟨44, _⟩ => ⟨S16x16x2048x2048, .f32⟩
  | .hbm, ⟨45, _⟩ => ⟨S_, .f32⟩
  | .hbm, ⟨46, _⟩ => ⟨S16x16x2048, .f32⟩
  | .hbm, ⟨47, _⟩ => ⟨S_, .f32⟩
  | .hbm, ⟨48, _⟩ => ⟨S16x16x2048, .f32⟩
  | .hbm, ⟨49, _⟩ => ⟨S16x16x2048, .f32⟩
  | .hbm, ⟨50, _⟩ => ⟨S16x16x2048x1, .f32⟩
  | .hbm, ⟨51, _⟩ => ⟨S16x16x2048x2048, .f32⟩
  | .hbm, ⟨52, _⟩ => ⟨S16x16x2048x2048, .f32⟩
  | .hbm, ⟨53, _⟩ => ⟨S16x16x2048x2048, .f32⟩
  | .hbm, ⟨54, _⟩ => ⟨S_, .f32⟩
  | .hbm, ⟨55, _⟩ => ⟨S16x16x2048, .f32⟩
  | .hbm, ⟨56, _⟩ => ⟨S16x16x2048x1, .f32⟩
  | .hbm, ⟨57, _⟩ => ⟨S16x16x2048x2048, .f32⟩
  | .hbm, ⟨58, _⟩ => ⟨S16x16x2048x2048, .f32⟩
  | .hbm, ⟨59, _⟩ => ⟨S16x16x64x2048, .f32⟩
  | .hbm, ⟨60, _⟩ => ⟨S16x2048x16x64, .f32⟩
  | .hbm, ⟨61, _⟩ => ⟨S16x2048x16x64, .f32⟩
  | .hbm, ⟨62, _⟩ => ⟨S16x2048x8x2x64, .f32⟩
  | .hbm, ⟨63, _⟩ => ⟨S8x16x2048x2x64, .f32⟩
  | .hbm, ⟨64, _⟩ => ⟨S8x32768x128, .f32⟩
  | .hbm, ⟨65, _⟩ => ⟨S8x32768x128, .bf16⟩
  | _, _ => ⟨S8x32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel2.lean ====
abbrev S16x2048x1024 : Shape := ⟨3, ![16, 2048, 1024]⟩
abbrev S8x32768x128 : Shape := ⟨3, ![8, 32768, 128]⟩
abbrev S32768x1024 : Shape := ⟨2, ![32768, 1024]⟩
abbrev S1x2048x1024 : Shape := ⟨3, ![1, 2048, 1024]⟩
abbrev S2048x1024 : Shape := ⟨2, ![2048, 1024]⟩
abbrev S1024x1024 : Shape := ⟨2, ![1024, 1024]⟩
abbrev S8x1024x128 : Shape := ⟨3, ![8, 1024, 128]⟩
abbrev S1x1024x128 : Shape := ⟨3, ![1, 1024, 128]⟩
abbrev S1024x128 : Shape := ⟨2, ![1024, 128]⟩

abbrev nBuf : Space → Nat
  | .hbm => 8
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S8x32768x128, .bf16⟩
  | .hbm, ⟨2, _⟩ => ⟨S32768x1024, .bf16⟩
  | .hbm, ⟨3, _⟩ => ⟨S1x2048x1024, .f32⟩
  | .hbm, ⟨4, _⟩ => ⟨S32768x1024, .f32⟩
  | .hbm, ⟨5, _⟩ => ⟨S2048x1024, .f32⟩
  | .hbm, ⟨6, _⟩ => ⟨S2048x1024, .bf16⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024x128, .bf16⟩
  | .local _ .vmem, ⟨3, _⟩ => ⟨S8x1024x128, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16x2048x1024 : Shape := ⟨3, ![16, 2048, 1024]⟩
abbrev S8x32768x128 : Shape := ⟨3, ![8, 32768, 128]⟩
abbrev S32768x1024 : Shape := ⟨2, ![32768, 1024]⟩
abbrev S1x2048x1024 : Shape := ⟨3, ![1, 2048, 1024]⟩
abbrev S8x16x2048x2x64 : Shape := ⟨5, ![8, 16, 2048, 2, 64]⟩
abbrev S16x2048x8x2x64 : Shape := ⟨5, ![16, 2048, 8, 2, 64]⟩
abbrev S16x2048x16x64 : Shape := ⟨4, ![16, 2048, 16, 64]⟩
abbrev S16x2048x2048 : Shape := ⟨3, ![16, 2048, 2048]⟩
abbrev S2048x1024 : Shape := ⟨2, ![2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S8x32768x128, .bf16⟩
  | .hbm, ⟨2, _⟩ => ⟨S32768x1024, .bf16⟩
  | .hbm, ⟨3, _⟩ => ⟨S1x2048x1024, .f32⟩
  | .hbm, ⟨4, _⟩ => ⟨S8x32768x128, .f32⟩
  | .hbm, ⟨5, _⟩ => ⟨S8x16x2048x2x64, .f32⟩
  | .hbm, ⟨6, _⟩ => ⟨S16x2048x8x2x64, .f32⟩
  | .hbm, ⟨7, _⟩ => ⟨S16x2048x16x64, .f32⟩
  | .hbm, ⟨8, _⟩ => ⟨S16x2048x1024, .f32⟩
  | .hbm, ⟨9, _⟩ => ⟨S32768x1024, .f32⟩
  | .hbm, ⟨10, _⟩ => ⟨S16x2048x1024, .f32⟩
  | .hbm, ⟨11, _⟩ => ⟨S16x2048x2048, .f32⟩
  | .hbm, ⟨12, _⟩ => ⟨S2048x1024, .f32⟩
  | .hbm, ⟨13, _⟩ => ⟨S16x2048x1024, .f32⟩
  | .hbm, ⟨14, _⟩ => ⟨S16x2048x1024, .f32⟩
  | .hbm, ⟨15, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024 : Shape := ⟨2, ![1, 1024]⟩
abbrev S1x1024x7184 : Shape := ⟨3, ![1, 1024, 7184]⟩
abbrev S1x16 : Shape := ⟨2, ![1, 16]⟩
abbrev S1x16x64 : Shape := ⟨3, ![1, 16, 64]⟩
abbrev S1x31x1024 : Shape := ⟨3, ![1, 31, 1024]⟩
abbrev S32768x1024 : Shape := ⟨2, ![32768, 1024]⟩
abbrev S1024x7184 : Shape := ⟨2, ![1024, 7184]⟩
abbrev S1024x3072 : Shape := ⟨2, ![1024, 3072]⟩
abbrev S1024x4096 : Shape := ⟨2, ![1024, 4096]⟩
abbrev S1024x7168 : Shape := ⟨2, ![1024, 7168]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S1x128 : Shape := ⟨2, ![1, 128]⟩
abbrev S1024 : Shape := ⟨1, ![1024]⟩
abbrev S16x64 : Shape := ⟨2, ![16, 64]⟩
abbrev S31x1024 : Shape := ⟨2, ![31, 1024]⟩
abbrev S512x512 : Shape := ⟨2, ![512, 512]⟩
abbrev S384x256 : Shape := ⟨2, ![384, 256]⟩
abbrev S31x8x128 : Shape := ⟨3, ![31, 8, 128]⟩
abbrev S8x31x128 : Shape := ⟨3, ![8, 31, 128]⟩
abbrev S8x1x128 : Shape := ⟨3, ![8, 1, 128]⟩
abbrev S8x32768x128 : Shape := ⟨3, ![8, 32768, 128]⟩
abbrev S32768x128 : Shape := ⟨2, ![32768, 128]⟩
abbrev S512x1024 : Shape := ⟨2, ![512, 1024]⟩
abbrev S8x512x128 : Shape := ⟨3, ![8, 512, 128]⟩
abbrev S512x128 : Shape := ⟨2, ![512, 128]⟩
abbrev S8x544x128 : Shape := ⟨3, ![8, 544, 128]⟩
abbrev S2x7x536x128 : Shape := ⟨4, ![2, 7, 536, 128]⟩
abbrev S8x32x128 : Shape := ⟨3, ![8, 32, 128]⟩
abbrev S512 : Shape := ⟨1, ![512]⟩
abbrev S512x1 : Shape := ⟨2, ![512, 1]⟩
abbrev S1024x1024 : Shape := ⟨2, ![1024, 1024]⟩
abbrev S1x512x128 : Shape := ⟨3, ![1, 512, 128]⟩
abbrev S1x536x128 : Shape := ⟨3, ![1, 536, 128]⟩
abbrev S536x128 : Shape := ⟨2, ![536, 128]⟩
abbrev S1x7x536x128 : Shape := ⟨4, ![1, 7, 536, 128]⟩
abbrev S7x536x128 : Shape := ⟨3, ![7, 536, 128]⟩
abbrev S128x128 : Shape := ⟨2, ![128, 128]⟩
abbrev S1x1x128 : Shape := ⟨3, ![1, 1, 128]⟩
abbrev S1x128x128 : Shape := ⟨3, ![1, 128, 128]⟩
abbrev S512x384 : Shape := ⟨2, ![512, 384]⟩
abbrev S512x256 : Shape := ⟨2, ![512, 256]⟩

abbrev nBuf : Space → Nat
  | .hbm => 92
  | .vmem => 32
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x7184, .f32⟩
  | .hbm, ⟨3, _⟩ => ⟨S1x16, .f32⟩
  | .hbm, ⟨4, _⟩ => ⟨S1x16x64, .f32⟩
  | .hbm, ⟨5, _⟩ => ⟨S1x16x64, .f32⟩
  | .hbm, ⟨6, _⟩ => ⟨S1x31x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S32768x1024, .f32⟩
  | .hbm, ⟨11, _⟩ => ⟨S1024x7184, .f32⟩
  | .hbm, ⟨12, _⟩ => ⟨S1024x7184, .bf16⟩
  | .hbm, ⟨13, _⟩ => ⟨S1024x3072, .bf16⟩
  | .hbm, ⟨14, _⟩ => ⟨S1024x4096, .bf16⟩
  | .hbm, ⟨15, _⟩ => ⟨S1024x7168, .bf16⟩
  | .hbm, ⟨16, _⟩ => ⟨S1024x16, .bf16⟩
  | .hbm, ⟨17, _⟩ => ⟨S_, .i32⟩
  | .hbm, ⟨18, _⟩ => ⟨S_, .bf16⟩
  | .hbm, ⟨19, _⟩ => ⟨S1024x128, .bf16⟩
  | .hbm, ⟨20, _⟩ => ⟨S16, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S1024, .f32⟩
  | .hbm, ⟨26, _⟩ => ⟨S1x1024, .f32⟩
  | .hbm, ⟨27, _⟩ => ⟨S16x64, .f32⟩
  | .hbm, ⟨28, _⟩ => ⟨S1x1024, .f32⟩
  | .hbm, ⟨29, _⟩ => ⟨S16x64, .f32⟩
  | .hbm, ⟨30, _⟩ => ⟨S1x1024, .f32⟩
  | .hbm, ⟨31, _⟩ => ⟨S31x1024, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S512x512, .bf16⟩
  | .hbm, ⟨41, _⟩ => ⟨S384x256, .i32⟩
  | .hbm, ⟨42, _⟩ => ⟨S384x256, .i32⟩
  | .hbm, ⟨43, _⟩ => ⟨S_, .i32⟩
  | .hbm, ⟨44, _⟩ => ⟨S384x256, .i32⟩
  | .hbm, ⟨45, _⟩ => ⟨S384x256, .i32⟩
  | .hbm, ⟨46, _⟩ => ⟨S_, .i32⟩
  | .hbm, ⟨47, _⟩ => ⟨S384x256, .i32⟩
  | .hbm, ⟨48, _⟩ => ⟨S384x256, .i32⟩
  | .hbm, ⟨49, _⟩ => ⟨S_, .i32⟩
  | .hbm, ⟨50, _⟩ => ⟨S384x256, .i32⟩
  | .hbm, ⟨51, _⟩ => ⟨S384x256, .i1⟩
  | .hbm, ⟨52, _⟩ => ⟨S_, .i32⟩
  | .hbm, ⟨53, _⟩ => ⟨S384x256, .i32⟩
  | .hbm, ⟨54, _⟩ => ⟨S384x256, .i32⟩
  | .hbm, ⟨55, _⟩ => ⟨S_, .i32⟩
  | .hbm, ⟨56, _⟩ => ⟨S384x256, .i32⟩
  | .hbm, ⟨57, _⟩ => ⟨S384x256, .i32⟩
  | .hbm, ⟨58, _⟩ => ⟨S384x256, .i32⟩
  | .hbm, ⟨59, _⟩ => ⟨S384x256, .i1⟩
  | .hbm, ⟨60, _⟩ => ⟨S384x256, .i1⟩
  | .hbm, ⟨61, _⟩ => ⟨S_, .i32⟩
  | .hbm, ⟨62, _⟩ => ⟨S384x256, .i32⟩
  | .hbm, ⟨63, _⟩ => ⟨S384x256, .i1⟩
  | .hbm, ⟨64, _⟩ => ⟨S_, .i32⟩
  | .hbm, ⟨65, _⟩ => ⟨S384x256, .i32⟩
  | .hbm, ⟨66, _⟩ => ⟨S384x256, .i32⟩
  | .hbm, ⟨67, _⟩ => ⟨S_, .i32⟩
  | .hbm, ⟨68, _⟩ => ⟨S384x256, .i32⟩
  | .hbm, ⟨69, _⟩ => ⟨S384x256, .i32⟩
  | .hbm, ⟨70, _⟩ => ⟨S384x256, .i32⟩
  | .hbm, ⟨71, _⟩ => ⟨S384x256, .i1⟩
  | .hbm, ⟨72, _⟩ => ⟨S384x256, .i1⟩
  | .hbm, ⟨73, _⟩ => ⟨S_, .f32⟩
  | .hbm, ⟨74, _⟩ => ⟨S_, .f32⟩
  | .hbm, ⟨75, _⟩ => ⟨S384x256, .f32⟩
  | .hbm, ⟨76, _⟩ => ⟨S384x256, .f32⟩
  | .hbm, ⟨77, _⟩ => ⟨S384x256, .f32⟩
  | .hbm, ⟨78, _⟩ => ⟨S_, .f32⟩
  | .hbm, ⟨79, _⟩ => ⟨S384x256, .f32⟩
  | .hbm, ⟨80, _⟩ => ⟨S384x256, .f32⟩
  | .hbm, ⟨81, _⟩ => ⟨S384x256, .bf16⟩
  | .hbm, ⟨82, _⟩ => ⟨S31x8x128, .f32⟩
  | .hbm, ⟨83, _⟩ => ⟨S8x31x128, .f32⟩
  | .hbm, ⟨84, _⟩ => ⟨S8x1x128, .f32⟩
  | .hbm, ⟨85, _⟩ => ⟨S8x32768x128, .bf16⟩
  | .hbm, ⟨86, _⟩ => ⟨S8x32768x128, .bf16⟩
  | .hbm, ⟨87, _⟩ => ⟨S8x32768x128, .bf16⟩
  | .hbm, ⟨88, _⟩ => ⟨S8x32768x128, .bf16⟩
  | .hbm, ⟨89, _⟩ => ⟨S32768x1024, .bf16⟩
  | .hbm, ⟨90, _⟩ => ⟨S32768x128, .bf16⟩
  | .hbm, ⟨91, _⟩ => ⟨S32768x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7168, .bf16⟩
  | .local _ .vmem, ⟨4, _⟩ => ⟨S1024x128, .bf16⟩
  | .local _ .vmem, ⟨5, _⟩ => ⟨S1x128, .f32⟩
  | .local _ .vmem, ⟨6, _⟩ => ⟨S512x512, .bf16⟩
  | .local _ .vmem, ⟨7, _⟩ => ⟨S1x1024, .f32⟩
  | .local _ .vmem, ⟨8, _⟩ => ⟨S1x1024, .f32⟩
  | .local _ .vmem, ⟨9, _⟩ => ⟨S384x256, .bf16⟩
  | .local _ .vmem, ⟨10, _⟩ => ⟨S8x31x128, .f32⟩
  | .local _ .vmem, ⟨11, _⟩ => ⟨S8x1x128, .f32⟩
  | .local _ .vmem, ⟨12, _⟩ => ⟨S1x1024, .f32⟩
  | .local _ .vmem, ⟨13, _⟩ => ⟨S1x1024, .f32⟩
  | .local _ .vmem, ⟨14, _⟩ => ⟨S8x512x128, .bf16⟩
  | .local _ .vmem, ⟨15, _⟩ => ⟨S8x512x128, .bf16⟩
  | .local _ .vmem, ⟨16, _⟩ => ⟨S8x512x128, .bf16⟩
  | .local _ .vmem, ⟨17, _⟩ => ⟨S8x512x128, .bf16⟩
  | .local _ .vmem, ⟨18, _⟩ => ⟨S8x512x128, .bf16⟩
  | .local _ .vmem, ⟨19, _⟩ => ⟨S8x512x128, .bf16⟩
  | .local _ .vmem, ⟨20, _⟩ => ⟨S8x512x128, .bf16⟩
  | .local _ .vmem, ⟨21, _⟩ => ⟨S8x512x128, .bf16⟩
  | .local _ .vmem, ⟨22, _⟩ => ⟨S512x1024, .bf16⟩
  | .local _ .vmem, ⟨23, _⟩ => ⟨S512x1024, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | .local _ .vmem, ⟨28, _⟩ => ⟨S1x128, .f32⟩
  | .local _ .vmem, ⟨29, _⟩ => ⟨S8x544x128, .f32⟩
  | .local _ .vmem, ⟨30, _⟩ => ⟨S2x7x536x128, .f32⟩
  | .local _ .vmem, ⟨31, _⟩ => ⟨S8x512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_1 : Ref sig .tc := ⟨.hbm, 43, rfl⟩
abbrev main_v29 : Ref sig .tc := ⟨.hbm, 44, rfl⟩
abbrev main_v30 : Ref sig .tc := ⟨.hbm, 45, rfl⟩
abbrev main_c_2 : Ref sig .tc := ⟨.hbm, 46, rfl⟩
abbrev main_v31 : Ref sig .tc := ⟨.hbm, 47, rfl⟩
abbrev main_v32 : Ref sig .tc := ⟨.hbm, 48, rfl⟩
abbrev main_c_3 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst : Ref sig .tc := ⟨.hbm, 73, rfl⟩
abbrev main_cst_9 : Ref sig .tc := ⟨.hbm, 74, rfl⟩
abbrev main_call2_v0 : Ref sig .tc := ⟨.hbm, 75, rfl⟩
abbrev main_call2_v1 : Ref sig .tc := ⟨.hbm, 76, rfl⟩
abbrev main_v51 : Ref sig .tc := ⟨.hbm, 77, rfl⟩
abbrev main_cst_10 : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57_0 : Ref sig .tc := ⟨.hbm, 85, rfl⟩
abbrev main_v57_1 : Ref sig .tc := ⟨.hbm, 86, rfl⟩
abbrev main_v57_2 : Ref sig .tc := ⟨.hbm, 87, rfl⟩
abbrev main_v57_3 : Ref sig .tc := ⟨.hbm, 88, rfl⟩
abbrev main_v57_4 : Ref sig .tc := ⟨.hbm, 89, rfl⟩
abbrev main_v57_5 : Ref sig .tc := ⟨.hbm, 90, rfl⟩
abbrev main_v57_6 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x31x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S16x2048x1024 : Shape := ⟨3, ![16, 2048, 1024]⟩
abbrev S1x1024 : Shape := ⟨2, ![1, 1024]⟩
abbrev S1x1024x7184 : Shape := ⟨3, ![1, 1024, 7184]⟩
abbrev S1x16 : Shape := ⟨2, ![1, 16]⟩
abbrev S1x16x64 : Shape := ⟨3, ![1, 16, 64]⟩
abbrev S1x31x1024 : Shape := ⟨3, ![1, 31, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x7184 : Shape := ⟨2, ![1024, 7184]⟩
abbrev S16x2048x7184 : Shape := ⟨3, ![16, 2048, 7184]⟩
abbrev S16x2048x16x64 : Shape := ⟨4, ![16, 2048, 16, 64]⟩
abbrev S16x64 : Shape := ⟨2, ![16, 64]⟩
abbrev S16x2048x16 : Shape := ⟨3, ![16, 2048, 16]⟩
abbrev S16x2048x16x1 : Shape := ⟨4, ![16, 2048, 16, 1]⟩
abbrev S1x1x16x64 : Shape := ⟨4, ![1, 1, 16, 64]⟩
abbrev S32768x8x128 : Shape := ⟨3, ![32768, 8, 128]⟩
abbrev S8x32768x128 : Shape := ⟨3, ![8, 32768, 128]⟩

abbrev nBuf : Space → Nat
  | .hbm => 95
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x7184, .f32⟩
  | .hbm, ⟨3, _⟩ => ⟨S1x16, .f32⟩
  | .hbm, ⟨4, _⟩ => ⟨S1x16x64, .f32⟩
  | .hbm, ⟨5, _⟩ => ⟨S1x16x64, .f32⟩
  | .hbm, ⟨6, _⟩ => ⟨S1x31x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S1024x7184, .f32⟩
  | .hbm, ⟨28, _⟩ => ⟨S16x2048x7184, .f32⟩
  | .hbm, ⟨29, _⟩ => ⟨S16x2048x1024, .f32⟩
  | .hbm, ⟨30, _⟩ => ⟨S16x2048x16x64, .f32⟩
  | .hbm, ⟨31, _⟩ => ⟨S16x64, .f32⟩
  | .hbm, ⟨32, _⟩ => ⟨S16x2048x16x64, .f32⟩
  | .hbm, ⟨33, _⟩ => ⟨S_, .f32⟩
  | .hbm, ⟨34, _⟩ => ⟨S16x2048x16, .f32⟩
  | .hbm, ⟨35, _⟩ => ⟨S16x2048x16x1, .f32⟩
  | .hbm, ⟨36, _⟩ => ⟨S_, .f32⟩
  | .hbm, ⟨37, _⟩ => ⟨S16x2048x16x1, .f32⟩
  | .hbm, ⟨38, _⟩ => ⟨S16x2048x16x1, .f32⟩
  | .hbm, ⟨39, _⟩ => ⟨S_, .f32⟩
  | .hbm, ⟨40, _⟩ => ⟨S16x2048x16x1, .f32⟩
  | .hbm, ⟨41, _⟩ => ⟨S16x2048x16x1, .f32⟩
  | .hbm, ⟨42, _⟩ => ⟨S16x2048x16x1, .f32⟩
  | .hbm, ⟨43, _⟩ => ⟨S16x2048x16x64, .f32⟩
  | .hbm, ⟨44, _⟩ => ⟨S16x2048x16x64, .f32⟩
  | .hbm, ⟨45, _⟩ => ⟨S1x1x16x64, .f32⟩
  | .hbm, ⟨46, _⟩ => ⟨S16x2048x16x64, .f32⟩
  | .hbm, ⟨47, _⟩ => ⟨S16x2048x16x64, .f32⟩
  | .hbm, ⟨48, _⟩ => ⟨S16x2048x1024, .f32⟩
  | .hbm, ⟨49, _⟩ => ⟨S16x2048x16x64, .f32⟩
  | .hbm, ⟨50, _⟩ => ⟨S16x64, .f32⟩
  | .hbm, ⟨51, _⟩ => ⟨S16x2048x16x64, .f32⟩
  | .hbm, ⟨52, _⟩ => ⟨S_, .f32⟩
  | .hbm, ⟨53, _⟩ => ⟨S16x2048x16, .f32⟩
  | .hbm, ⟨54, _⟩ => ⟨S16x2048x16x1, .f32⟩
  | .hbm, ⟨55, _⟩ => ⟨S_, .f32⟩
  | .hbm, ⟨56, _⟩ => ⟨S16x2048x16x1, .f32⟩
  | .hbm, ⟨57, _⟩ => ⟨S16x2048x16x1, .f32⟩
  | .hbm, ⟨58, _⟩ => ⟨S_, .f32⟩
  | .hbm, ⟨59, _⟩ => ⟨S16x2048x16x1, .f32⟩
  | .hbm, ⟨60, _⟩ => ⟨S16x2048x16x1, .f32⟩
  | .hbm, ⟨61, _⟩ => ⟨S16x2048x16x1, .f32⟩
  | .hbm, ⟨62, _⟩ => ⟨S16x2048x16x64, .f32⟩
  | .hbm, ⟨63, _⟩ => ⟨S16x2048x16x64, .f32⟩
  | .hbm, ⟨64, _⟩ => ⟨S1x1x16x64, .f32⟩
  | .hbm, ⟨65, _⟩ => ⟨S16x2048x16x64, .f32⟩
  | .hbm, ⟨66, _⟩ => ⟨S16x2048x16x64, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S_, .f32⟩
  | .hbm, ⟨72, _⟩ => ⟨S16x2048x1024, .f32⟩
  | .hbm, ⟨73, _⟩ => ⟨S16x2048x1024, .f32⟩
  | .hbm, ⟨74, _⟩ => ⟨S_, .f32⟩
  | .hbm, ⟨75, _⟩ => ⟨S16x2048x1024, .f32⟩
  | .hbm, ⟨76, _⟩ => ⟨S16x2048x1024, .f32⟩
  | .hbm, ⟨77, _⟩ => ⟨S16x2048x1024, .f32⟩
  | .hbm, ⟨78, _⟩ => ⟨S_, .f32⟩
  | .hbm, ⟨79, _⟩ => ⟨S16x2048x16x64, .f32⟩
  | .hbm, ⟨80, _⟩ => ⟨S16x2048x16x64, .f32⟩
  | .hbm, ⟨81, _⟩ => ⟨S16x2048x1024, .f32⟩
  | .hbm, ⟨82, _⟩ => ⟨S32768x8x128, .f32⟩
  | .hbm, ⟨83, _⟩ => ⟨S8x32768x128, .f32⟩
  | .hbm, ⟨84, _⟩ => ⟨S8x32768x128, .bf16⟩
  | .hbm, ⟨85, _⟩ => ⟨S16x2048x1024, .f32⟩
  | .hbm, ⟨86, _⟩ => ⟨S32768x8x128, .f32⟩
  | .hbm, ⟨87, _⟩ => ⟨S8x32768x128, .f32⟩
  | .hbm, ⟨88, _⟩ => ⟨S8x32768x128, .bf16⟩
  | .hbm, ⟨89, _⟩ => ⟨S32768x8x128, .f32⟩
  | .hbm, ⟨90, _⟩ => ⟨S8x32768x128, .f32⟩
  | .hbm, ⟨91, _⟩ => ⟨S8x32768x128, .bf16⟩
  | .hbm, ⟨92, _⟩ => ⟨S32768x8x128, .f32⟩
  | .hbm, ⟨93, _⟩ => ⟨S8x32768x128, .f32⟩
  | .hbm, ⟨94, _⟩ => ⟨S8x32768x128, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩

abbrev nD : Nat := 1
abbrev τ : Topo := Topo.v7x

variable {F : FTy → Type} [FloatOps F]
-- ==== Proof.Out.Body.lean ====
/- The output projection's kernel: what one grid point computes, element by element, and the array it leaves. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Kernel2Ideal.Out

open Cert.Reference2Ideal.Read Cert.Kernel2Ideal Cert.Kernel2Ideal.Gen Idealize.ShloMosaic Idealize.ShloMosaic.TcCoe Idealize.SL.Sem

/-- One grid point's block: the residual rows, plus the attention rows (eight slabs of 128 lanes laid side by side)
    times the upper half of the weights, plus the convolution rows times the lower half. -/
theorem out_at (x0 : Vec Ideal S1024x1024 .f32) (x1 : Vec Ideal S8x1024x128 .bf16) (x2 : Vec Ideal S1024x1024 .bf16)
    (x3 : Vec Ideal S2048x1024 .bf16) (r o : Fin 1024) : out0_4 x0 x1 x2 x3 (ix2 r o)
      = x0 (ix2 r o)
        + ∑ k : Fin 1024, x1 (ix3 ⟨k.val / 128, by omega⟩ r ⟨k.val % 128, by omega⟩) * x3 (ix2 ⟨k.val, by omega⟩ o)
        + ∑ k : Fin 1024, x2 (ix2 r k) * x3 (ix2 ⟨1024 + k.val, by omega⟩ o) := by
  frame_out
  unfold_payloads
  pointwise [View.ld, r0_0, r0_1, r0_2, r0_3, r0_4, r0_5, r0_6, r0_7, r0_9, r0_10]
  congr 2

/-- The same element of the reference: the residual plus the joined rows times the weights. -/
theorem ref_at (x : (⟨S16x2048x1024, .f32⟩ : BufTy).Contents (Elt Ideal)) (a : (⟨S8x32768x128, .bf16⟩ : BufTy).Contents (Elt Ideal))
    (u : (⟨S32768x1024, .bf16⟩ : BufTy).Contents (Elt Ideal)) (w : (⟨S1x2048x1024, .f32⟩ : BufTy).Contents (Elt Ideal))
    (r : Fin 32768) (o : Fin 1024) : val_main_v11 x a u w (ix2 r o)
      = x (ix3 ⟨r.val / 2048, by omega⟩ ⟨r.val % 2048, by omega⟩ o)
        + ∑ k : Fin 1024, a (ix3 ⟨k.val / 128, by omega⟩ r ⟨k.val % 128, by omega⟩) * w (ix3 0 ⟨k.val, by omega⟩ o)
        + ∑ k : Fin 1024, u (ix2 r k) * w (ix3 0 ⟨1024 + k.val, by omega⟩ o) := by
  pointwise [val_main_v11, val_main_v10, val_main_v9, val_main_v8, val_main_v7, val_main_v6, val_main_v5, val_main_v4,
    val_main_v3, val_main_v2, val_main_v1, val_main_v0]
  rw [add_assoc]
  congr 2

variable (m : (ℓ : Loc nD τ sig) → Buf (Elt Ideal) ℓ)

/-- Row `r` of the block at grid point `t` is row `1024 t + r` of the whole. -/
theorem emb_at (t : Fin cfg0.grid.N) (r o : Fin 1024) : (win0_4.blk t).view.emb (ix2 r o)
    = (ix2 ⟨1024 * t.val + r.val, by have := t.isLt; have : cfg0.grid.N = 32 := N_0; omega⟩ o : S32768x1024.Idx) := by
  have idx : ∀ t : Fin grid0.N, win0_4.index t 0 = t.val ∧ win0_4.index t 1 = 0 := by decide +kernel
  blk_ext [idx t]

/-- After the run the result array is the reference's. -/
theorem final (c : Dev nD) : (dats m 0 c).arrAt 4 cfg0.N
    = val_main_v11 (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  idx_vars y
  rw [emb_at, out_at]
  refine Eq.trans ?_ (ref_at _ _ _ _ _ _).symm
  have idx0 : ∀ t : Fin grid0.N, win0_0.index t 0 = t.val ∧ win0_0.index t 1 = 0 := by decide +kernel
  have idx1 : ∀ t : Fin grid0.N, win0_1.index t 0 = 0 ∧ win0_1.index t 1 = t.val ∧ win0_1.index t 2 = 0 := by decide +kernel
  have idx2 : ∀ t : Fin grid0.N, win0_2.index t 0 = t.val ∧ win0_2.index t 1 = 0 := by decide +kernel
  have idx3 : ∀ t : Fin grid0.N, win0_3.index t 0 = 0 ∧ win0_3.index t 1 = 0 := by decide +kernel
  refine congrArg₂ _ (congrArg₂ _ ?_ (Finset.sum_congr rfl fun k _ => congrArg₂ _ ?_ ?_))
    (Finset.sum_congr rfl fun k _ => congrArg₂ _ ?_ ?_)
  · blk_ext! [iblk, V, idx0 t]
  · blk_ext! [iblk, V, idx1 t]
  · blk_ext! [iblk, V, idx3 t]
  · blk_ext! [iblk, V, idx2 t]
  · blk_ext! [iblk, V, idx3 t]

end Cert.Kernel2Ideal.Out

end
-- ==== Proof.Att.Model.lean ====
/- The attention kernel's body, for one batch element and one pair of heads, as a recursion: the scores of one block of keys
   against one block of queries, the running maximum and the running weighted sum after each block of keys, and the block of
   the result they end in. Nothing here is about memory. -/
module

public import proofs.«01_k».proof.Proof.Gen.KernelIdeal.Skeleton
public import Idealize.ShloMosaic.Lib.Pipeline.ValueKit
public import Idealize.ShloMosaic.Lib.Pipeline.ReadBack
public import Idealize.ShloMosaic.Lib.Pointwise

@[expose] public section

noncomputable section

namespace Cert.KernelIdeal.Att

open Cert.KernelIdeal Cert.KernelIdeal.Gen Idealize.ShloMosaic Idealize.ShloMosaic.TcCoe Idealize.SL.Sem

/-! ## Pieces of the operands -/

/-- The vector that is `x` everywhere. -/
def fill (s : Shape) {α : Type} (x : α) : s.Idx → α := fun _ => x

/-- 256 consecutive rows of a slab, from row `o`. -/
def slab (x : Vec Ideal S1x2048x128 .bf16) (o : ℕ) : Vec Ideal S1x256x128 .bf16 :=
  fun y => x (ix3 (0 : Fin 1) (Fin.ofNat 2048 (o + (y 1).val)) (y 2 : Fin 128))

/-- 256 consecutive rows of a table of decay features, from row `o`. -/
def rows (x : Vec Ideal S2048x128 .bf16) (o : ℕ) : Vec Ideal S256x128 .bf16 :=
  fun y => x (ix2 (Fin.ofNat 2048 (o + (y 0).val)) (y 1 : Fin 128))

/-- One array of 128 rows above another. -/
def above (A B : Vec Ideal S1x1x128x256 .bf16) : Vec Ideal S1x1x256x256 .bf16 := fun y =>
  if h : (y 2).val < 128 then A (ix4 (0 : Fin 1) (0 : Fin 1) ⟨(y 2).val, h⟩ (y 3 : Fin 256))
  else B (ix4 (0 : Fin 1) (0 : Fin 1) (Fin.ofNat 128 ((y 2).val - 128)) (y 3 : Fin 256))

/-- An array of 64 rows above one of 16. -/
def above' (A : Vec Ideal S1x64x256 .bf16) (B : Vec Ideal S1x16x256 .bf16) : Vec Ideal S1x80x256 .bf16 := fun y =>
  if h : (y 1).val < 64 then A (ix3 (0 : Fin 1) ⟨(y 1).val, h⟩ (y 2 : Fin 256))
  else B (ix3 (0 : Fin 1) (Fin.ofNat 16 ((y 1).val - 64)) (y 2 : Fin 256))

/-- A slab's rows as columns. -/
def cols (x : Vec Ideal S1x2048x128 .bf16) (o : ℕ) : FVec Ideal S128x256 .f32 :=
  transpose S128x256 [1, 0] (extf .f32 (shapeCast S256x128 (slab x o) (by decide) : FVec Ideal S256x128 .bf16) bitsLt_bf16_f32) (by decide)

/-- A table's rows as columns. -/
def cols' (x : Vec Ideal S2048x128 .bf16) (o : ℕ) : FVec Ideal S128x256 .f32 :=
  transpose S128x256 [1, 0] (extf .f32 (rows x o : FVec Ideal S256x128 .bf16) bitsLt_bf16_f32) (by decide)

/-- 64 consecutive rows, from row `o`. -/
def band (X : FVec Ideal S128x256 .f32) (o : ℕ) : FVec Ideal S64x256 .f32 :=
  fun y => X (ix2 (Fin.ofNat 128 (o + (y 0).val)) (y 1 : Fin 256))

/-- `n` consecutive rows of a stored block, from row `o`. -/
def part (n o : ℕ) (A : Vec Ideal S1x80x256 .f32) : Vec Ideal ⟨3, ![1, n, 256]⟩ .f32 :=
  fun y => A (ix3 (0 : Fin 1) (Fin.ofNat 80 (o + (y 1).val)) (y 2 : Fin 256))

/-- Two blocks of 64 rows, one above the other. -/
def stack (A B : FVec Ideal S64x256 .f32) : FVec Ideal S128x256 .f32 :=
  concatenate S128x256 0 [⟨S64x256, A⟩, ⟨S64x256, B⟩] concatenates_S64x256_S64x256_S128x256_d0

/-- Two blocks of 128 columns side by side. -/
def beside (A B : FVec Ideal S256x128 .bf16) : FVec Ideal S256x256 .bf16 :=
  concatenate S256x256 1 [⟨S256x128, A⟩, ⟨S256x128, B⟩] concatenates_S256x128_S256x128_S256x256_d1

/-- The rows from `lo` to before `hi`; zero elsewhere. -/
def keep (lo hi : BitVec 32) (X : FVec Ideal S128x256 .f32) : FVec Ideal S128x256 .bf16 :=
  truncf .bf16 (select
    (broadcastTo S128x256 (shapeCast S128x1
      (andi (cmpi .sge (iota .tc S128x1 32 [0] iota_S128x1_d0_w32) (broadcast S128x1 lo))
        (cmpi .slt (iota .tc S128x1 32 [0] iota_S128x1_d0_w32) (broadcast S128x1 hi))) (by decide)) (by decide))
    X (broadcast S128x256 (FloatOps.ofBits .f32 0#32))) bitsLt_bf16_f32

/-- The first decay lane of head `h` of the pair `p`. -/
def lane (p : BitVec 32) (h : ℕ) : BitVec 32 :=
  Scalar.muli (Scalar.addi (Scalar.muli p 2#32) (BitVec.ofNat 32 h)) 8#32

/-! ## One block -/

section

variable (x0 x1 x2 : Vec Ideal S1x2048x128 .bf16) (x3 x4 : Vec Ideal S2048x128 .bf16) (x5 : Vec Ideal S1x2048x128 .bf16)
  (p : BitVec 32) (h i : ℕ)

/-- The queries of block `i` for head `h`, above their decay features. -/
def query : FVec Ideal S256x256 .bf16 :=
  shapeCast S256x256 (above
    (shapeCast S1x1x128x256 (keep (BitVec.ofNat 32 (64 * h)) (BitVec.ofNat 32 (64 * h + 64)) (cols x0 (256 * i))) (by decide))
    (shapeCast S1x1x128x256 (keep (lane p h) (Scalar.addi (lane p h) 8#32) (cols' x4 (256 * i))) (by decide))) (by decide)

/-- The keys of block `j`, beside their decay features. -/
def key (j : ℕ) : FVec Ideal S256x256 .bf16 :=
  beside (shapeCast S256x128 (slab x1 (256 * j)) (by decide)) (rows x3 (256 * j))

/-- The scores of the keys of block `j` (rows) for the queries of block `i` (columns). -/
def score (j : ℕ) : FVec Ideal S256x256 .f32 :=
  matmul dot_S256x256_S256x256_S256x256_1_0_0_1_n_n none (key x1 x3 j) (query x0 x4 p h i) (constant S256x256 .f32 0#32)

/-- The values of block `j` for head `h` as columns, above rows of ones. -/
def value (j : ℕ) : FVec Ideal S80x256 .bf16 :=
  shapeCast S80x256 (above'
    (shapeCast S1x64x256 (truncf .bf16 (band (cols x2 (256 * j)) (64 * h)) bitsLt_bf16_f32)
      (by decide))
    (shapeCast S1x16x256 (broadcast S16x256 (FloatOps.ofBits .bf16 16256#16 : Ideal .bf16)) (by decide))) (by decide)

/-- The scores of the diagonal block: those of keys after their query are lowered to the mask. -/
def masked (s : FVec Ideal S256x256 .f32) : FVec Ideal S256x256 .f32 := minimumf s k0_pay2

/-- The running maximum after a block of scores. -/
def maxStep (s : FVec Ideal S256x256 .f32) (m : FVec Ideal S1x256 .f32) : FVec Ideal S1x256 .f32 :=
  maximumf m (shapeCast S1x256 (multiReduction .maximumf [0] S256 s 4286578688#32) (by decide))

/-- The running weighted sum after a block of scores `s`, with values `v`, where the maximum moves from `m` to `m'`. -/
def accStep (s : FVec Ideal S256x256 .f32) (v : FVec Ideal S80x256 .bf16) (m m' : FVec Ideal S1x256 .f32)
    (a : FVec Ideal S80x256 .f32) : FVec Ideal S80x256 .f32 :=
  addf (mulf (broadcastTo S80x256 (exp2 (subf m m')) (by decide)) a)
    (matmul dot_S80x256_S256x256_S80x256_1_0_0_1_n_n none v
      (truncf .bf16 (exp2 (subf s (broadcastTo S256x256 m' (by decide)))) bitsLt_bf16_f32) (constant S80x256 .f32 0#32))

/-- The running maximum before block `j` of keys. -/
def maxAt : ℕ → FVec Ideal S1x256 .f32
  | 0 => fill S1x256 (Named.named κ "mask" 0xF149F2CA#32 : Ideal .f32)
  | j + 1 => maxStep (score x0 x1 x3 x4 p h i j) (maxAt j)

/-- The running weighted sum before block `j` of keys. -/
def accAt : ℕ → FVec Ideal S80x256 .f32
  | 0 => fill S80x256 (FloatOps.ofBits .f32 0#32 : Ideal .f32)
  | j + 1 => accStep (score x0 x1 x3 x4 p h i j) (value x2 h j) (maxAt x0 x1 x3 x4 p h i j)
      (maxStep (score x0 x1 x3 x4 p h i j) (maxAt x0 x1 x3 x4 p h i j)) (accAt j)

/-- The weighted sum after the diagonal block. -/
def accEnd : FVec Ideal S80x256 .f32 :=
  accStep (masked (score x0 x1 x3 x4 p h i i)) (value x2 h i) (maxAt x0 x1 x3 x4 p h i i)
    (maxStep (masked (score x0 x1 x3 x4 p h i i)) (maxAt x0 x1 x3 x4 p h i i)) (accAt x0 x1 x2 x3 x4 p h i i)

/-- The weighted mean: the first 64 rows of the weighted sum over its row 64, the sum of the weights. -/
def mean (a : FVec Ideal S80x256 .f32) : FVec Ideal S64x256 .f32 :=
  mulf (shapeCast S64x256 (part 64 0 (shapeCast S1x80x256 a (by decide))) (by decide))
    (broadcastTo S64x256 (divf (broadcast S1x256 (FloatOps.ofBits .f32 1065353216#32))
      (shapeCast S1x256 (part 1 64 (shapeCast S1x80x256 a (by decide))) (by decide))) (by decide))

/-- The block of the result: both heads' weighted means side by side, times the gate. -/
def tile : FVec Ideal S1x256x128 .bf16 :=
  shapeCast S1x256x128 (truncf .bf16 (mulf
    (transpose S256x128 [1, 0] (stack (mean (accEnd x0 x1 x2 x3 x4 p 0 i)) (mean (accEnd x0 x1 x2 x3 x4 p 1 i))) (by decide))
    (extf .f32 (shapeCast S256x128 (slab x5 (256 * i)) (by decide) : FVec Ideal S256x128 .bf16) bitsLt_bf16_f32)) bitsLt_bf16_f32) (by decide)

end

end Cert.KernelIdeal.Att

end
-- ==== Proof.Att.Values.lean ====
/- The attention's model, element by element. -/
module

public import proofs.«01_k».proof.Proof.Att.Model

@[expose] public section

set_option maxRecDepth 16384

noncomputable section

namespace Cert.KernelIdeal.Att

open Cert.KernelIdeal Cert.KernelIdeal.Gen Idealize.ShloMosaic Idealize.ShloMosaic.TcCoe Idealize.SL.Sem

variable (x0 x1 x2 : Vec Ideal S1x2048x128 .bf16) (x3 x4 : Vec Ideal S2048x128 .bf16) (x5 : Vec Ideal S1x2048x128 .bf16)
  (p : BitVec 32) (h i j : ℕ)

/-- The lanes from `lo` to before `hi`, as a bit. -/
def inside (lo hi : BitVec 32) (k : ℕ) : BitVec 1 :=
  IntOp.andi (IntOp.cmpi .sge (BitVec.ofNat 32 k) lo) (IntOp.cmpi .slt (BitVec.ofNat 32 k) hi)

/-- A key's 128 lanes, then its 128 decay lanes. -/
theorem key_at (s k : Fin 256) :
    key x1 x3 j (ix2 s k) = if h : k.val < 128 then x1 (ix3 0 (Fin.ofNat 2048 (256 * j + s.val)) ⟨k.val, h⟩)
      else x3 (ix2 (Fin.ofNat 2048 (256 * j + s.val)) (Fin.ofNat 128 (k.val - 128))) := by
  pointwise [key, beside, slab, rows]
  split
  · rfl
  · congr 2
    ext
    simp only [Fin.ofNat]
    omega

/-- A query's lanes of head `h`, then its decay lanes of that head; zero elsewhere. -/
theorem query_at (k r : Fin 256) :
    query x0 x4 p h i (ix2 k r) = if hk : k.val < 128 then
        Scalar.select (inside (BitVec.ofNat 32 (64 * h)) (BitVec.ofNat 32 (64 * h + 64)) k.val)
          (x0 (ix3 0 (Fin.ofNat 2048 (256 * i + r.val)) ⟨k.val, hk⟩)) 0
      else Scalar.select (inside (lane p h) (Scalar.addi (lane p h) 8#32) (Fin.ofNat 128 (k.val - 128)).val)
        (x4 (ix2 (Fin.ofNat 2048 (256 * i + r.val)) (Fin.ofNat 128 (k.val - 128)))) 0 := by
  unfold inside
  pointwise [query, above, keep, cols, cols', slab, rows]

/-- A score is the product of a key's 256 lanes and a query's. -/
theorem score_at (s r : Fin 256) :
    score x0 x1 x3 x4 p h i j (ix2 s r) = ∑ x, key x1 x3 j (ix2 s x) * query x0 x4 p h i (ix2 x r) := by
  pointwise [score]

/-- A value's 64 channels of head `h`, then ones. -/
theorem value_at (d : Fin 80) (s : Fin 256) :
    value x2 h j (ix2 d s) = if d.val < 64 then
      x2 (ix3 0 (Fin.ofNat 2048 (256 * j + s.val)) (Fin.ofNat 128 (64 * h + d.val))) else 1 := by
  pointwise [value, above', band, cols, slab]
  split <;> rfl

/-- On the diagonal block a score stays where the key is not after the query, and is the mask elsewhere. -/
theorem masked_at (S : FVec Ideal S256x256 .f32) (s r : Fin 256) :
    masked S (ix2 s r) = min (S (ix2 s r)) (Scalar.select (IntOp.cmpi .sle (BitVec.ofNat 32 s.val) (BitVec.ofNat 32 r.val))
      (Ideal.ofBits .f32 2139095040#32) (Named.named κ "mask" 4048155338#32 : Ideal .f32)) := by
  pointwise [masked, k0_pay2]

/-- The running maximum after a block. -/
theorem maxStep_at (S : FVec Ideal S256x256 .f32) (M : FVec Ideal S1x256 .f32) (r : Fin 256) :
    maxStep S M (ix2 0 r) = max (M (ix2 0 r))
      (Finset.fold max (Ideal.ofBits .f32 4286578688#32) (fun x : Fin 256 => S (ix2 x r)) Finset.univ) := by
  pointwise [maxStep]

/-- The running weighted sum after a block. -/
theorem accStep_at (S : FVec Ideal S256x256 .f32) (v : FVec Ideal S80x256 .bf16) (m m' : FVec Ideal S1x256 .f32)
    (a : FVec Ideal S80x256 .f32) (d : Fin 80) (r : Fin 256) :
    accStep S v m m' a (ix2 d r) = Ideal.exp2 (m (ix2 0 r) - m' (ix2 0 r)) * a (ix2 d r)
      + ∑ x : Fin 256, v (ix2 d x) * Ideal.exp2 (S (ix2 x r) - m' (ix2 0 r)) := by
  pointwise [accStep]
  rfl

/-- The weighted mean is the weighted sum over the sum of the weights. -/
theorem mean_at (a : FVec Ideal S80x256 .f32) (d : Fin 64) (r : Fin 256) :
    mean a (ix2 d r) = a (ix2 (Fin.ofNat 80 d.val) r) * Ideal.div 1 (a (ix2 (64 : Fin 80) r)) := by
  pointwise [mean, part]
  rfl

/-- One block above the other. -/
theorem stack_at (A B : FVec Ideal S64x256 .f32) (l : Fin 128) (r : Fin 256) :
    stack A B (ix2 l r) = if h : l.val < 64 then A (ix2 ⟨l.val, h⟩ r) else B (ix2 ⟨l.val - 64, by omega⟩ r) := by
  pointwise [stack]

/-- The block of the result. -/
theorem tile_at (r : Fin 256) (l : Fin 128) :
    tile x0 x1 x2 x3 x4 x5 p i (ix3 0 r l) = stack (mean (accEnd x0 x1 x2 x3 x4 p 0 i)) (mean (accEnd x0 x1 x2 x3 x4 p 1 i)) (ix2 l r)
      * x5 (ix3 0 (Fin.ofNat 2048 (256 * i + r.val)) l) := by
  pointwise [tile, slab]

end Cert.KernelIdeal.Att

end
-- ==== Proof.Att.Softmax.lean ====
/- The arithmetic of a softmax computed block by block, over the extended reals: a weighted sum kept relative to a running
   maximum is, after every block, the sum of the values times weights `2^s` and one common positive factor, so the weighted
   mean does not depend on the maxima taken along the way. -/
module

public import Idealize.ShloMosaic.PureOps.Ideal
public import Idealize.ShloMosaic.Lib.Pointwise
public import Mathlib.Data.EReal.Operations
public import Mathlib.Data.EReal.Inv

@[expose] public section

noncomputable section

namespace Cert.KernelIdeal.Att

open Idealize.ShloMosaic

/-- The factor `2 ^ (-m)` that a running maximum `m` puts on every weight. -/
def unit (m : EReal) : ℝ := (Ideal.exp2 (-m)).toReal

/-- `2^x` of a real. -/
theorem exp2_real (x : ℝ) : Ideal.exp2 (x : EReal) = ((2 : ℝ) ^ x : ℝ) := rfl

/-- `2^x` at −∞. -/
theorem exp2_bot : Ideal.exp2 ⊥ = 0 := rfl

/-- `e^x` of a real. -/
theorem exp_real (x : ℝ) : Ideal.exp (x : EReal) = (Real.exp x : ℝ) := rfl

/-- `e^x` at −∞. -/
theorem exp_bot : Ideal.exp ⊥ = 0 := rfl

/-- The factor of a real maximum. -/
theorem unit_real (x : ℝ) : unit (x : EReal) = (2 : ℝ) ^ (-x) := by
  unfold unit
  rw [← EReal.coe_neg, exp2_real, EReal.toReal_coe]

/-- `2 ^ (x - m)` for a real `m` is `2 ^ x` times the factor of `m`. -/
theorem exp2_sub (x : EReal) (w m : ℝ) (h : Ideal.exp2 x = (w : EReal)) : Ideal.exp2 (x - (m : EReal)) = (w * unit m : ℝ) := by
  rw [unit_real]
  induction x using EReal.rec with
  | bot =>
    rw [exp2_bot] at h
    have hw : w = 0 := by exact_mod_cast h.symm
    rw [EReal.bot_sub, exp2_bot, hw, zero_mul]
    rfl
  | top => exact absurd h (EReal.coe_ne_top w).symm
  | coe x =>
    rw [exp2_real] at h
    have hw : w = 2 ^ x := by exact_mod_cast h.symm
    rw [← EReal.coe_sub, exp2_real, hw, sub_eq_add_neg, Real.rpow_add (by norm_num)]

/-- `e ^ (x - m)` for a real `m`, likewise. -/
theorem exp_sub (x : EReal) (w m : ℝ) (h : Ideal.exp x = (w : EReal)) :
    Ideal.exp (x - (m : EReal)) = (w * Real.exp (-m) : ℝ) := by
  induction x using EReal.rec with
  | bot =>
    rw [exp_bot] at h
    have hw : w = 0 := by exact_mod_cast h.symm
    rw [EReal.bot_sub, exp_bot, hw, zero_mul]
    rfl
  | top => exact absurd h (EReal.coe_ne_top w).symm
  | coe x =>
    rw [exp_real] at h
    have hw : w = Real.exp x := by exact_mod_cast h.symm
    rw [← EReal.coe_sub, exp_real, hw, sub_eq_add_neg, Real.exp_add]

/-- A nonnegative real factor goes into a sum of extended reals. -/
theorem mul_sum_real {ι : Type} (s : Finset ι) (c : ℝ) (hc : 0 ≤ c) (f : ι → EReal) :
    (c : EReal) * ∑ x ∈ s, f x = ∑ x ∈ s, (c : EReal) * f x := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

/-- The sum of real weights, as an extended real. -/
theorem sum_real {ι : Type} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-- One block: the running sum after it, from the running sum before it. -/
theorem step (N B : ℕ) (w : ℕ → ℝ) (v : ℕ → EReal) (S V : Fin B → EReal) (m : EReal) (μ : ℝ) (a : EReal)
    (ha : a = ∑ n ∈ Finset.range N, v n * ((w n * unit m : ℝ) : EReal)) (hm : (m = ⊥ ∧ N = 0) ∨ ∃ x : ℝ, m = (x : EReal))
    (hS : ∀ x : Fin B, Ideal.exp2 (S x) = (w (N + x.val) : EReal)) (hV : ∀ x : Fin B, V x = v (N + x.val)) :
    Ideal.exp2 (m - (μ : EReal)) * a + ∑ x, V x * Ideal.exp2 (S x - (μ : EReal))
      = ∑ n ∈ Finset.range (N + B), v n * ((w n * unit μ : ℝ) : EReal) := by
  rw [Finset.sum_range_add, Finset.sum_range (fun x => v (N + x) * _)]
  congr 1
  · rcases hm with ⟨rfl, rfl⟩ | ⟨x, rfl⟩
    · rw [EReal.bot_sub, exp2_bot, zero_mul]
      rfl
    · rw [← EReal.coe_sub, exp2_real, ha, mul_sum_real _ _ (Real.rpow_nonneg (by norm_num) _)]
      refine Finset.sum_congr rfl fun n _ => ?_
      rw [mul_left_comm, ← EReal.coe_mul, unit_real, unit_real, sub_eq_add_neg, Real.rpow_add (by norm_num),
        Real.rpow_neg (by norm_num) x]
      congr 2
      have : (2 : ℝ) ^ x ≠ 0 := (Real.rpow_pos_of_pos (by norm_num) x).ne'
      field_simp
  · exact Finset.sum_congr rfl fun x _ => by rw [exp2_sub _ _ _ (hS x), hV x]

/-- The weighted mean of the values does not depend on the common factor of the weights. -/
theorem mean_eq (s : Finset ℕ) (w : ℕ → ℝ) (v : ℕ → EReal) (c : ℝ) (hc : 0 < c) (hw : ∀ n ∈ s, 0 ≤ w n)
    (hp : 0 < ∑ n ∈ s, w n) :
    (∑ n ∈ s, v n * ((w n * c : ℝ) : EReal)) * Ideal.div 1 (∑ n ∈ s, 1 * ((w n * c : ℝ) : EReal))
      = ∑ n ∈ s, v n * ((w n / ∑ n ∈ s, w n : ℝ) : EReal) := by
  have hl : (∑ n ∈ s, (1 : EReal) * ((w n * c : ℝ) : EReal)) = (((∑ n ∈ s, w n) * c : ℝ) : EReal) := by
    simp only [one_mul]
    rw [sum_real, Finset.sum_mul]
  have hd : Ideal.div 1 (((∑ n ∈ s, w n) * c : ℝ) : EReal) = ((1 / ((∑ n ∈ s, w n) * c) : ℝ) : EReal) := by
    rw [Ideal.div_coe (mul_pos hp hc).ne', one_mul]
  rw [hl, hd, mul_comm, mul_sum_real _ _ (by positivity)]
  refine Finset.sum_congr rfl fun n _ => ?_
  rw [mul_left_comm, ← EReal.coe_mul]
  congr 2
  field_simp

/-- The greatest of finitely many extended reals below `⊤`, and of `⊥`, is real where one of them is. -/
theorem fold_max_real {B : ℕ} (f : Fin B → EReal) (m : EReal) (hm : m ≠ ⊤) (hf : ∀ x, f x ≠ ⊤)
    (h : m ≠ ⊥ ∨ ∃ x, f x ≠ ⊥) : ∃ μ : ℝ, max m (Finset.fold max ⊥ f Finset.univ) = (μ : EReal) := by
  have h₁ : max m (Finset.fold max ⊥ f Finset.univ) < ⊤ :=
    max_lt (lt_top_iff_ne_top.2 hm) ((Finset.fold_max_lt _).2 ⟨bot_lt_top, fun x _ => lt_top_iff_ne_top.2 (hf x)⟩)
  have h₂ : ⊥ < max m (Finset.fold max ⊥ f Finset.univ) := by
    rcases h with h | ⟨x, h⟩
    · exact lt_max_of_lt_left (bot_lt_iff_ne_bot.2 h)
    · exact lt_max_of_lt_right ((Finset.lt_fold_max _).2 (.inr ⟨x, Finset.mem_univ x, bot_lt_iff_ne_bot.2 h⟩))
  exact ⟨_, (EReal.coe_toReal h₁.ne h₂.ne').symm⟩

end Cert.KernelIdeal.Att

end
-- ==== Proof.Att.Column.lean ====
/- One query of one head in the attention kernel: where every score is real, the block of the result is the values' mean
   under the weights `2^s`, whatever maxima were taken along the way. -/
module

public import proofs.«01_k».proof.Proof.Att.Values
public import proofs.«01_k».proof.Proof.Att.Softmax
public import Idealize.ShloMosaic.Lib.WordCmp

@[expose] public section

set_option maxRecDepth 16384

noncomputable section

namespace Cert.KernelIdeal.Att

open Cert.KernelIdeal Cert.KernelIdeal.Gen Idealize.ShloMosaic Idealize.ShloMosaic.TcCoe Idealize.SL.Sem

/-- The pattern of −∞. -/
theorem ofBits_neg_inf : Ideal.ofBits .f32 4286578688#32 = ⊥ := by
  simp [Ideal.ofBits, Ideal.ieee]

/-- The pattern of +∞. -/
theorem ofBits_inf : Ideal.ofBits .f32 2139095040#32 = ⊤ := by
  simp [Ideal.ofBits, Ideal.ieee]

/-- The mask stands for −∞. -/
theorem mask_eq : (Named.named κ "mask" 4048155338#32 : Ideal .f32) = ⊥ := rfl

/-- Comparing two small numbers as words is comparing them. -/
theorem sle_small (a b : ℕ) (ha : a < 2048) (hb : b < 2048) :
    IntOp.cmpi .sle (BitVec.ofNat 32 a) (BitVec.ofNat 32 b) = if a ≤ b then 1#1 else 0#1 := by
  rw [WordCmp.cmpi_sle_ofNat (by omega) (by omega)]
  by_cases h : a ≤ b <;> simp [h]

/-- The lanes of a head of the pair. -/
theorem inside_head : ∀ (h : Fin 2) (k : Fin 128),
    inside (BitVec.ofNat 32 (64 * h.val)) (BitVec.ofNat 32 (64 * h.val + 64)) k.val
      = if 64 * h.val ≤ k.val ∧ k.val < 64 * h.val + 64 then 1#1 else 0#1 := by decide +kernel

/-- The decay lanes of a head of the pair. -/
theorem inside_lane : ∀ (p : Fin 8) (h : Fin 2) (k : Fin 128),
    inside (lane (BitVec.ofNat 32 p.val) h.val) (Scalar.addi (lane (BitVec.ofNat 32 p.val) h.val) 8#32) k.val
      = if 8 * (2 * p.val + h.val) ≤ k.val ∧ k.val < 8 * (2 * p.val + h.val) + 8 then 1#1 else 0#1 := by decide +kernel

/-- A product over 128 lanes with all but `w` of them put to zero is the product over those. -/
theorem sum_window (lo w : ℕ) (hlo : lo + w ≤ 128) (b : ℕ → BitVec 1)
    (hb : ∀ k : Fin 128, b k.val = if lo ≤ k.val ∧ k.val < lo + w then 1#1 else 0#1) (f g : Fin 128 → EReal) :
    ∑ k : Fin 128, f k * Scalar.select (b k.val) (g k) 0
      = ∑ e : Fin w, g (Fin.ofNat 128 (lo + e.val)) * f (Fin.ofNat 128 (lo + e.val)) := by
  symm
  have hv : ∀ e : Fin w, (Fin.ofNat 128 (lo + e.val)).val = lo + e.val := fun e => Nat.mod_eq_of_lt (by omega)
  refine Finset.sum_of_injOn (fun e : Fin w => Fin.ofNat 128 (lo + e.val)) ?_ (fun _ _ => Finset.mem_coe.2 (Finset.mem_univ _)) ?_ ?_
  · intro a _ c _ hac
    have := congrArg Fin.val hac
    simp only [hv] at this
    exact Fin.ext (by omega)
  · intro k _ hk
    rw [hb, if_neg, Scalar.select, if_neg (by decide), mul_zero]
    rintro ⟨h₁, h₂⟩
    exact hk ⟨⟨k.val - lo, by omega⟩, Finset.mem_coe.2 (Finset.mem_univ _), Fin.ext (by rw [hv]; show lo + (k.val - lo) = k.val; omega)⟩
  · intro e _
    rw [hb, hv, if_pos (by omega), Scalar.select, if_pos (by decide), mul_comm]

variable (x0 x1 x2 : Vec Ideal S1x2048x128 .bf16) (x3 x4 : Vec Ideal S2048x128 .bf16) (x5 : Vec Ideal S1x2048x128 .bf16)

/-- The score of key `n` for query `t` of head `h` of the pair `p`: the product of the head's channels plus the product of
    its decay features. -/
def logit (p : Fin 8) (h : Fin 2) (t n : Fin 2048) : EReal :=
  (∑ e : Fin 64, x0 (ix3 0 t (Fin.ofNat 128 (64 * h.val + e.val))) * x1 (ix3 0 n (Fin.ofNat 128 (64 * h.val + e.val))))
    + ∑ e : Fin 8, x4 (ix2 t (Fin.ofNat 128 (8 * (2 * p.val + h.val) + e.val)))
        * x3 (ix2 n (Fin.ofNat 128 (8 * (2 * p.val + h.val) + e.val)))

/-- The kernel's score is the logit: the lanes put to zero add nothing. -/
theorem score_logit (p : Fin 8) (h : Fin 2) (i j : ℕ) (s r : Fin 256) :
    score x0 x1 x3 x4 (BitVec.ofNat 32 p.val) h.val i j (ix2 s r)
      = logit x0 x1 x3 x4 p h (Fin.ofNat 2048 (256 * i + r.val)) (Fin.ofNat 2048 (256 * j + s.val)) := by
  rw [score_at]
  simp only [key_at, query_at]
  refine Eq.trans (Fin.sum_univ_add (a := 128) (b := 128) _) ?_
  unfold logit
  refine congrArg₂ _ ?_ ?_
  · rw [← sum_window (64 * h.val) 64 (by omega) _ (inside_head h)
      (fun k => x1 (ix3 0 (Fin.ofNat 2048 (256 * j + s.val)) k)) (fun k => x0 (ix3 0 (Fin.ofNat 2048 (256 * i + r.val)) k))]
    refine Finset.sum_congr rfl fun k _ => ?_
    have hk : (Fin.castAdd 128 k).val < 128 := k.isLt
    rw [dif_pos hk, dif_pos hk]
    rfl
  · rw [← sum_window (8 * (2 * p.val + h.val)) 8 (by omega) _ (inside_lane p h)
      (fun k => x3 (ix2 (Fin.ofNat 2048 (256 * j + s.val)) k)) (fun k => x4 (ix2 (Fin.ofNat 2048 (256 * i + r.val)) k))]
    refine Finset.sum_congr rfl fun k _ => ?_
    have hk : ¬ (Fin.natAdd 128 k).val < 128 := by simp
    have he : Fin.ofNat 128 ((Fin.natAdd 128 k).val - 128) = k := by
      ext
      simp [Fin.ofNat]
    rw [dif_neg hk, dif_neg hk, he]

/-- The weight of key `n` for query `t`, where its score is `s n`. -/
def weight (s : ℕ → ℝ) (t n : ℕ) : ℝ := if n ≤ t then (2 : ℝ) ^ s n else 0

/-- A weight is not negative. -/
theorem weight_nonneg (s : ℕ → ℝ) (t n : ℕ) : 0 ≤ weight s t n := by
  unfold weight
  split
  · positivity
  · exact le_rfl

/-- The sum of the weights over the first `N` keys, the query's own among them. -/
theorem weight_sum_pos (s : ℕ → ℝ) (t N : ℕ) (h : t < N) : 0 < ∑ n ∈ Finset.range N, weight s t n :=
  Finset.sum_pos' (fun n _ => weight_nonneg s t n)
    ⟨t, Finset.mem_range.2 h, by unfold weight; rw [if_pos le_rfl]; positivity⟩

/-- Row `d` of key `n`'s value for head `h`: its channels, then ones. -/
def channel (h : Fin 2) (d n : ℕ) : EReal :=
  if d < 64 then x2 (ix3 0 (Fin.ofNat 2048 n) (Fin.ofNat 128 (64 * h.val + d))) else 1

section

variable (p : Fin 8) (h : Fin 2) (i : ℕ) (r : Fin 256) (s : ℕ → ℝ)
  (hs : ∀ n : ℕ, logit x0 x1 x3 x4 p h (Fin.ofNat 2048 (256 * i + r.val)) (Fin.ofNat 2048 n) = (s n : EReal))

include hs

/-- Before block `j` of keys the running maximum is real, or no block has been taken. -/
theorem maxAt_real (j : ℕ) : (maxAt x0 x1 x3 x4 (BitVec.ofNat 32 p.val) h.val i j (ix2 0 r) = ⊥ ∧ 256 * j = 0)
    ∨ ∃ μ : ℝ, maxAt x0 x1 x3 x4 (BitVec.ofNat 32 p.val) h.val i j (ix2 0 r) = (μ : EReal) := by
  induction j with
  | zero => exact .inl ⟨mask_eq, rfl⟩
  | succ j ih =>
    right
    unfold maxAt
    rw [maxStep_at, ofBits_neg_inf]
    refine fold_max_real _ _ ?_ (fun x => ?_) (.inr ⟨0, ?_⟩)
    · rcases ih with ⟨e, _⟩ | ⟨μ, e⟩ <;> rw [e]
      · exact bot_ne_top
      · exact EReal.coe_ne_top μ
    · rw [score_logit, hs]
      exact EReal.coe_ne_top _
    · rw [score_logit, hs]
      exact EReal.coe_ne_bot _

/-- Before block `j` of keys, none of them after the query: the running weighted sum. -/
theorem accAt_eq (j : ℕ) (hj : j ≤ i) (d : Fin 80) : accAt x0 x1 x2 x3 x4 (BitVec.ofNat 32 p.val) h.val i j (ix2 d r)
    = ∑ n ∈ Finset.range (256 * j), channel x2 h d.val n * ((weight s (256 * i + r.val) n
        * unit (maxAt x0 x1 x3 x4 (BitVec.ofNat 32 p.val) h.val i j (ix2 0 r)) : ℝ) : EReal) := by
  induction j with
  | zero =>
    rw [mul_zero, Finset.range_zero, Finset.sum_empty]
    show Ideal.ofBits .f32 0#32 = 0
    simp [Ideal.ofBits, Ideal.ieee]
  | succ j ih =>
    obtain ⟨μ, hμ⟩ := (maxAt_real x0 x1 x3 x4 p h i r s hs (j + 1)).resolve_left (by omega)
    have hμ' := hμ
    unfold maxAt at hμ'
    rw [hμ]
    unfold accAt
    rw [accStep_at, hμ', show 256 * (j + 1) = 256 * j + 256 by ring]
    refine step (256 * j) 256 _ _ _ _ _ μ _ (ih (by omega)) (maxAt_real x0 x1 x3 x4 p h i r s hs j) (fun x => ?_) (fun x => ?_)
    · rw [score_logit, hs, exp2_real, weight, if_pos (by omega)]
    · rw [value_at, channel]

/-- After the diagonal block: the weighted sum over every key up to the query. -/
theorem accEnd_eq (hi : i < 8) : ∃ μ : ℝ, ∀ d : Fin 80, accEnd x0 x1 x2 x3 x4 (BitVec.ofNat 32 p.val) h.val i (ix2 d r)
    = ∑ n ∈ Finset.range (256 * i + 256), channel x2 h d.val n * ((weight s (256 * i + r.val) n * unit (μ : EReal) : ℝ) : EReal) := by
  have hm : ∀ x : Fin 256, masked (score x0 x1 x3 x4 (BitVec.ofNat 32 p.val) h.val i i) (ix2 x r)
      = if x.val ≤ r.val then (s (256 * i + x.val) : EReal) else ⊥ := by
    intro x
    rw [masked_at, score_logit, hs, ofBits_inf, mask_eq, sle_small _ _ (by omega) (by omega)]
    by_cases hx : x.val ≤ r.val
    · rw [if_pos hx, if_pos hx, Scalar.select, if_pos (by decide), min_eq_left le_top]
    · rw [if_neg hx, if_neg hx, Scalar.select, if_neg (by decide), min_eq_right bot_le]
  obtain ⟨μ, hμ⟩ : ∃ μ : ℝ, maxStep (masked (score x0 x1 x3 x4 (BitVec.ofNat 32 p.val) h.val i i))
      (maxAt x0 x1 x3 x4 (BitVec.ofNat 32 p.val) h.val i i) (ix2 0 r) = (μ : EReal) := by
    rw [maxStep_at, ofBits_neg_inf]
    refine fold_max_real _ _ ?_ (fun x => ?_) (.inr ⟨r, ?_⟩)
    · rcases maxAt_real x0 x1 x3 x4 p h i r s hs i with ⟨e, _⟩ | ⟨μ, e⟩ <;> rw [e]
      · exact bot_ne_top
      · exact EReal.coe_ne_top μ
    · rw [hm]
      split
      · exact EReal.coe_ne_top _
      · exact bot_ne_top
    · rw [hm, if_pos le_rfl]
      exact EReal.coe_ne_bot _
  refine ⟨μ, fun d => ?_⟩
  unfold accEnd
  rw [accStep_at, hμ]
  refine step (256 * i) 256 _ _ _ _ _ μ _ (accAt_eq x0 x1 x2 x3 x4 p h i r s hs i le_rfl d)
    (maxAt_real x0 x1 x3 x4 p h i r s hs i) (fun x => ?_) (fun x => ?_)
  · rw [hm, weight]
    by_cases hx : x.val ≤ r.val
    · rw [if_pos hx, if_pos (by omega), exp2_real]
    · rw [if_neg hx, if_neg (by omega), exp2_bot]
      rfl
  · rw [value_at, channel]

/-- The weighted mean: the mean of the values of every key up to the query, under the weights `2^s`. -/
theorem mean_accEnd (hi : i < 8) (d : Fin 64) : mean (accEnd x0 x1 x2 x3 x4 (BitVec.ofNat 32 p.val) h.val i) (ix2 d r)
    = ∑ n ∈ Finset.range 2048, x2 (ix3 0 (Fin.ofNat 2048 n) (Fin.ofNat 128 (64 * h.val + d.val)))
        * ((weight s (256 * i + r.val) n / ∑ n ∈ Finset.range 2048, weight s (256 * i + r.val) n : ℝ) : EReal) := by
  obtain ⟨μ, hμ⟩ := accEnd_eq x0 x1 x2 x3 x4 p h i r s hs hi
  have hsub : Finset.range (256 * i + 256) ⊆ Finset.range 2048 := Finset.range_subset_range.2 (by omega)
  have h0 : ∀ n ∈ Finset.range 2048, n ∉ Finset.range (256 * i + 256) → weight s (256 * i + r.val) n = 0 := by
    intro n _ hn
    rw [Finset.mem_range] at hn
    rw [weight, if_neg (by omega)]
  have hd : (Fin.ofNat 80 d.val).val = d.val := Nat.mod_eq_of_lt (by omega)
  rw [mean_at, hμ, hμ]
  have h1 : ∀ n, channel x2 h (64 : Fin 80).val n = 1 := fun n => if_neg (by decide)
  have h2 : ∀ n, channel x2 h (Fin.ofNat 80 d.val).val n
      = x2 (ix3 0 (Fin.ofNat 2048 n) (Fin.ofNat 128 (64 * h.val + d.val))) := fun n => by
    rw [hd, channel, if_pos d.isLt]
  simp only [h1, h2]
  rw [mean_eq _ _ _ _ (by rw [unit_real]; positivity) (fun n _ => weight_nonneg s _ n) (weight_sum_pos s _ _ (by omega)),
    Finset.sum_subset hsub h0]
  refine Finset.sum_subset hsub fun n hn hn' => ?_
  rw [h0 n hn hn', zero_div, EReal.coe_zero, mul_zero]

end

end Cert.KernelIdeal.Att

end
-- ==== Proof.Att.Ref.lean ====
/- The attention's reference, element by element. -/
module

public import proofs.«01_k».proof.Proof.Gen.ReferenceIdeal.Read
public import Idealize.ShloMosaic.Lib.Pipeline.ValueKit
public import Idealize.ShloMosaic.Lib.Pointwise
public import Idealize.ShloMosaic.PureOps.Reduce

@[expose] public section

set_option maxRecDepth 16384

noncomputable section

namespace Cert.ReferenceIdeal.Att

open Cert.ReferenceIdeal Cert.ReferenceIdeal.Read Cert.ReferenceIdeal.Gen Idealize.ShloMosaic Idealize.ShloMosaic.TcCoe Idealize.SL.Sem

variable (x0 x1 x2 : (⟨S8x32768x128, .bf16⟩ : BufTy).Contents (Elt Ideal)) (x3 x4 : (⟨S32768x128, .bf16⟩ : BufTy).Contents (Elt Ideal))
  (x5 : (⟨S8x32768x128, .bf16⟩ : BufTy).Contents (Elt Ideal))

/-- A logit: the head's channels' product plus its decay features' product, times log 2, where the key is not after the query. -/
theorem logit_at (b h : Fin 16) (r k : Fin 2048) : val_main_v33 x0 x1 x3 x4 (ix4 b h r k)
    = Scalar.select (IntOp.cmpi .sle (BitVec.ofNat 32 k.val) (BitVec.ofNat 32 r.val))
      (((∑ x : Fin 64, x0 (ix3 ⟨h.val / 2, by omega⟩ ⟨b.val * 2048 + r.val, by omega⟩ ⟨h.val % 2 * 64 + x.val, by omega⟩)
            * x1 (ix3 ⟨h.val / 2, by omega⟩ ⟨b.val * 2048 + k.val, by omega⟩ ⟨h.val % 2 * 64 + x.val, by omega⟩))
          + ∑ x : Fin 8, x4 (ix2 ⟨b.val * 2048 + r.val, by omega⟩ ⟨h.val * 8 + x.val, by omega⟩)
            * x3 (ix2 ⟨b.val * 2048 + k.val, by omega⟩ ⟨h.val * 8 + x.val, by omega⟩))
        * Ideal.log (Ideal.ofBits FTy.f32 1073741824#32))
      (Ideal.ofBits .f32 4286578688#32) := by
  pointwise [val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_v16, val_main_v7, val_main_v6, val_main_v5, val_main_v4, val_main_v3, val_main_v2, val_main_v1, val_main_v0,
    val_main_cst, val_main_cst_0, val_main_call0_v0, val_main_call0_v1, val_main_call0_v2]
  rfl

/-- A weight: the exponential of the logit less the greatest, over the sum of those of its row. -/
theorem prob_at (b h : Fin 16) (r k : Fin 2048) : val_main_v44 x0 x1 x3 x4 (ix4 b h r k)
    = Ideal.div (Ideal.exp (val_main_v33 x0 x1 x3 x4 (ix4 b h r k) - val_main_v36 x0 x1 x3 x4 (ix3 b h r)))
      (∑ x : Fin 2048, Ideal.exp (val_main_v33 x0 x1 x3 x4 (ix4 b h r x) - val_main_v36 x0 x1 x3 x4 (ix3 b h r))) := by
  pointwise [val_main_v44, val_main_v43, val_main_v42, val_main_v41, val_main_v40, val_main_v39, val_main_v38, val_main_v37,
    val_main_cst_3]

/-- The result: the mean of the values under the weights, times the gate. -/
theorem out_at (g : Fin 8) (t : Fin 32768) (l : Fin 128) : val_main_v51 x0 x1 x2 x3 x4 x5 (ix3 g t l)
    = (∑ x : Fin 2048, x2 (ix3 g ⟨t.val / 2048 * 2048 + x.val, by omega⟩ l)
        * val_main_v44 x0 x1 x3 x4 (ix4 ⟨t.val / 2048, by omega⟩ ⟨g.val * 2 + l.val / 64, by omega⟩ ⟨t.val % 2048, by omega⟩ x))
      * x5 (ix3 g t l) := by
  pointwise [val_main_v51, val_main_v50, val_main_v49, val_main_v48, val_main_v47, val_main_v46, val_main_v45, val_main_v15,
    val_main_v14, val_main_v13, val_main_v12, val_main_v11, val_main_v10, val_main_v9, val_main_v8]

end Cert.ReferenceIdeal.Att

end
-- ==== Proof.Att.RefMax.lean ====
/- The attention's reference: the greatest logit of a row. -/
module

public import proofs.«01_k».proof.Proof.Gen.ReferenceIdeal.Read
public import Idealize.ShloMosaic.Lib.Pipeline.ValueKit
public import Idealize.ShloMosaic.Lib.Pointwise
public import Idealize.ShloMosaic.PureOps.Reduce

@[expose] public section

set_option maxRecDepth 16384

noncomputable section

namespace Cert.ReferenceIdeal.Att

open Cert.ReferenceIdeal Cert.ReferenceIdeal.Read Cert.ReferenceIdeal.Gen Idealize.ShloMosaic Idealize.ShloMosaic.TcCoe Idealize.SL.Sem

variable (x0 x1 x2 : (⟨S8x32768x128, .bf16⟩ : BufTy).Contents (Elt Ideal)) (x3 x4 : (⟨S32768x128, .bf16⟩ : BufTy).Contents (Elt Ideal))

/-- The greatest logit of a row is real where none is `⊤` and the row has one that is real. -/
theorem max_real (b h : Fin 16) (r k : Fin 2048) (ht : ∀ i, val_main_v33 (F := Ideal) x0 x1 x3 x4 i ≠ (⊤ : EReal))
    (hb : val_main_v33 (F := Ideal) x0 x1 x3 x4 (ix4 b h r k) ≠ (⊥ : EReal)) :
    ∃ μ : ℝ, val_main_v36 (F := Ideal) x0 x1 x3 x4 (ix3 b h r) = (μ : EReal) := by
  have e := Host.reduce_eq_fold (FloatOps.maximumf (F := Ideal) (φ := .f32)) (val_main_v33 (F := Ideal) x0 x1 x3 x4)
    (val_main_cst_1 (F := Ideal)) reducesTo_S16x16x2048x2048_S16x16x2048_d3 h_S_ (ix3 b h r)
  generalize hs : (Finset.univ.filter fun i => reducesTo_S16x16x2048x2048_S16x16x2048_d3.drop i = ix3 b h r) = s at e
  have hm : (ix4 b h r k : S16x16x2048x2048.Idx) ∈ s := by
    rw [← hs, Finset.mem_filter]
    refine ⟨Finset.mem_univ _, ?_⟩
    funext c
    match c with
    | 0 => rfl
    | 1 => rfl
    | 2 => rfl
  have e' : val_main_v36 (F := Ideal) x0 x1 x3 x4 (ix3 b h r)
      = max (Ideal.ofBits .f32 4286578688#32) (s.fold max (Ideal.ofBits .f32 4286578688#32) (val_main_v33 (F := Ideal) x0 x1 x3 x4)) := by
    rw [val_main_v36_apply, val_main_v35_apply, val_main_cst_2_apply]
    exact congrArg _ e
  have hc : Ideal.ofBits .f32 4286578688#32 = ⊥ := by simp [Ideal.ofBits, Ideal.ieee]
  rw [hc] at e'
  have h₁ : val_main_v36 (F := Ideal) x0 x1 x3 x4 (ix3 b h r) < (⊤ : EReal) := by
    rw [e']
    exact max_lt bot_lt_top ((Finset.fold_max_lt _).2 ⟨bot_lt_top, fun i _ => lt_top_iff_ne_top.2 (ht i)⟩)
  have h₂ : (⊥ : EReal) < val_main_v36 (F := Ideal) x0 x1 x3 x4 (ix3 b h r) := by
    rw [e']
    exact lt_max_of_lt_right ((Finset.lt_fold_max _).2 (.inr ⟨_, hm, bot_lt_iff_ne_bot.2 hb⟩))
  exact ⟨_, (EReal.coe_toReal h₁.ne h₂.ne').symm⟩

end Cert.ReferenceIdeal.Att

end
-- ==== Proof.Att.Reads.lean ====
/- What the attention kernel's loads read: blocks of the operands, and what the body itself stored before. -/
module

public import proofs.«01_k».proof.Proof.Att.Model

@[expose] public section

noncomputable section

namespace Cert.KernelIdeal.Att

open Cert.KernelIdeal Cert.KernelIdeal.Gen Idealize.ShloMosaic Idealize.ShloMosaic.TcCoe Idealize.SL.Sem

variable {κ' : Kind} {sp : Space}

/-- The newest store, read at a place its rectangle holds. -/
theorem hit {s : Shape} {e : EltTy} (r : Rect s) (w : r.shape.Idx → Elt Ideal e) (L : List (View.Piece (Elt Ideal) s e)) (y : s.Idx)
    (x : r.shape.Idx) (h : ∀ a, (y a).val = r.off a + r.stride a * (x a).val) : View.canon (⟨r, w⟩ :: L) y = w x := by
  rw [← r.emb_eq_of_coords x y h, View.canon_cons_emb]

/-- A store that does not meet a load, of three dimensions. -/
theorem skip₃ {n₀ n₁ n₂ : ℕ} {e : EltTy} (v : View sig κ' sp ⟨3, ![n₀, n₁, n₂]⟩ e) (a₀ a₁ a₂ s₀ s₁ s₂ b₀ b₁ b₂ t₀ t₁ t₂ : ℕ) (hA hB w)
    (L : List (View.Piece (Elt Ideal) ⟨3, ![n₀, n₁, n₂]⟩ e)) (h : b₀ + t₀ ≤ a₀ ∨ a₀ + s₀ ≤ b₀ ∨ b₁ + t₁ ≤ a₁ ∨ a₁ + s₁ ≤ b₁) :
    v.readCov (⟨Rect.unit (s := ⟨3, ![n₀, n₁, n₂]⟩) ![a₀, a₁, a₂] ![s₀, s₁, s₂] hA, w⟩ :: L)
      (Rect.unit (s := ⟨3, ![n₀, n₁, n₂]⟩) ![b₀, b₁, b₂] ![t₀, t₁, t₂] hB).toLoadRect
      = v.readCov L (Rect.unit (s := ⟨3, ![n₀, n₁, n₂]⟩) ![b₀, b₁, b₂] ![t₀, t₁, t₂] hB).toLoadRect := by
  rw [View.readCov_eq_canon', View.readCov_eq_canon']
  funext y
  have h0 : (y 0).val < t₀ := (y 0).isLt
  have h1 : (y 1).val < t₁ := (y 1).isLt
  refine View.canon_cons_of_not_mem _ _ ?_
  rcases h with h | h | h | h
  · exact Rect.not_mem_set_of_axis _ _ 0 a₀ s₀ rfl rfl rfl (Or.inl (show b₀ + 1 * (y 0).val < a₀ by omega))
  · exact Rect.not_mem_set_of_axis _ _ 0 a₀ s₀ rfl rfl rfl (Or.inr (show a₀ + s₀ ≤ b₀ + 1 * (y 0).val by omega))
  · exact Rect.not_mem_set_of_axis _ _ 1 a₁ s₁ rfl rfl rfl (Or.inl (show b₁ + 1 * (y 1).val < a₁ by omega))
  · exact Rect.not_mem_set_of_axis _ _ 1 a₁ s₁ rfl rfl rfl (Or.inr (show a₁ + s₁ ≤ b₁ + 1 * (y 1).val by omega))

/-- A store that does not meet a load, of four dimensions. -/
theorem skip₄ {n₀ n₁ n₂ n₃ : ℕ} {e : EltTy} (v : View sig κ' sp ⟨4, ![n₀, n₁, n₂, n₃]⟩ e) (a₀ a₁ a₂ a₃ s₀ s₁ s₂ s₃ b₀ b₁ b₂ b₃ t₀ t₁ t₂ t₃ : ℕ)
    (hA hB w) (L : List (View.Piece (Elt Ideal) ⟨4, ![n₀, n₁, n₂, n₃]⟩ e)) (h : b₀ + t₀ ≤ a₀ ∨ a₀ + s₀ ≤ b₀ ∨ b₁ + t₁ ≤ a₁ ∨ a₁ + s₁ ≤ b₁) :
    v.readCov (⟨Rect.unit (s := ⟨4, ![n₀, n₁, n₂, n₃]⟩) ![a₀, a₁, a₂, a₃] ![s₀, s₁, s₂, s₃] hA, w⟩ :: L)
      (Rect.unit (s := ⟨4, ![n₀, n₁, n₂, n₃]⟩) ![b₀, b₁, b₂, b₃] ![t₀, t₁, t₂, t₃] hB).toLoadRect
      = v.readCov L (Rect.unit (s := ⟨4, ![n₀, n₁, n₂, n₃]⟩) ![b₀, b₁, b₂, b₃] ![t₀, t₁, t₂, t₃] hB).toLoadRect := by
  rw [View.readCov_eq_canon', View.readCov_eq_canon']
  funext y
  have h0 : (y 0).val < t₀ := (y 0).isLt
  have h1 : (y 1).val < t₁ := (y 1).isLt
  refine View.canon_cons_of_not_mem _ _ ?_
  rcases h with h | h | h | h
  · exact Rect.not_mem_set_of_axis _ _ 0 a₀ s₀ rfl rfl rfl (Or.inl (show b₀ + 1 * (y 0).val < a₀ by omega))
  · exact Rect.not_mem_set_of_axis _ _ 0 a₀ s₀ rfl rfl rfl (Or.inr (show a₀ + s₀ ≤ b₀ + 1 * (y 0).val by omega))
  · exact Rect.not_mem_set_of_axis _ _ 1 a₁ s₁ rfl rfl rfl (Or.inl (show b₁ + 1 * (y 1).val < a₁ by omega))
  · exact Rect.not_mem_set_of_axis _ _ 1 a₁ s₁ rfl rfl rfl (Or.inr (show a₁ + s₁ ≤ b₁ + 1 * (y 1).val by omega))

/-- A block of 256 rows of a slab. -/
theorem read_slab (v : View sig κ' sp S1x2048x128 .bf16) (f : v.ty.Contents (Elt Ideal)) (o : ℕ) (h) :
    v.readAt (Elt Ideal) (Rect.unit (s := S1x2048x128) ![0, o, 0] ![1, 256, 128] h).toLoadRect f = slab (v.read (Elt Ideal) f) o := by
  have ho : o + 256 ≤ 2048 := h 1
  refine funext fun y => congrArg (v.read (Elt Ideal) f) (funext fun a => Fin.ext ?_)
  have hy : (y 1).val < 256 := (y 1).isLt
  have hy0 : (y 0).val < 1 := (y 0).isLt
  fin_cases a
  · show 0 + 1 * (y 0).val = 0; omega
  · show o + 1 * (y 1).val = (o + (y 1).val) % 2048; omega
  · show 0 + 1 * (y 2).val = (y 2).val; omega

/-- A block of 256 rows of a table of decay features. -/
theorem read_rows (v : View sig κ' sp S2048x128 .bf16) (f : v.ty.Contents (Elt Ideal)) (o : ℕ) (h) :
    v.readAt (Elt Ideal) (Rect.unit (s := S2048x128) ![o, 0] ![256, 128] h).toLoadRect f = rows (v.read (Elt Ideal) f) o := by
  have ho : o + 256 ≤ 2048 := h 0
  refine funext fun y => congrArg (v.read (Elt Ideal) f) (funext fun a => Fin.ext ?_)
  have hy : (y 0).val < 256 := (y 0).isLt
  fin_cases a
  · show o + 1 * (y 0).val = (o + (y 0).val) % 2048; omega
  · show 0 + 1 * (y 1).val = (y 1).val; omega

/-- A load of 256 rows that two stores filled, the lower 128 last. -/
theorem read_above (v : View sig κ' sp S2x8x256x256 .bf16) (a b : ℕ) (A B : Vec Ideal S1x1x128x256 .bf16) (hA hB h)
    (L : List (View.Piece (Elt Ideal) S2x8x256x256 .bf16)) :
    v.readCov (⟨Rect.unit (s := S2x8x256x256) ![a, b, 128, 0] ![1, 1, 128, 256] hB, B⟩
      :: ⟨Rect.unit (s := S2x8x256x256) ![a, b, 0, 0] ![1, 1, 128, 256] hA, A⟩ :: L)
      (Rect.unit (s := S2x8x256x256) ![a, b, 0, 0] ![1, 1, 256, 256] h).toLoadRect = above A B := by
  rw [View.readCov_eq_canon']
  funext y
  have h0 : (y 0).val < 1 := (y 0).isLt
  have h1 : (y 1).val < 1 := (y 1).isLt
  have h2 : (y 2).val < 256 := (y 2).isLt
  unfold above
  split_ifs with hy
  · rw [View.canon_cons_of_not_mem]
    · refine hit (Rect.unit (s := S2x8x256x256) ![a, b, 0, 0] S1x1x128x256.size hA) A L _ (ix4 (0 : Fin 1) (0 : Fin 1) ⟨(y 2).val, hy⟩ (y 3 : Fin 256)) fun c => ?_
      fin_cases c
      · show a + 1 * (y 0).val = a + 1 * 0; omega
      · show b + 1 * (y 1).val = b + 1 * 0; omega
      · show 0 + 1 * (y 2).val = 0 + 1 * (y 2).val; rfl
      · show 0 + 1 * (y 3).val = 0 + 1 * (y 3).val; rfl
    · refine Rect.not_mem_set_of_axis _ _ 2 128 128 rfl rfl rfl (Or.inl ?_)
      show 0 + 1 * (y 2).val < 128; omega
  · refine hit (Rect.unit (s := S2x8x256x256) ![a, b, 128, 0] S1x1x128x256.size hB) B _ _ (ix4 (0 : Fin 1) (0 : Fin 1) (Fin.ofNat 128 ((y 2).val - 128)) (y 3 : Fin 256)) fun c => ?_
    fin_cases c
    · show a + 1 * (y 0).val = a + 1 * 0; omega
    · show b + 1 * (y 1).val = b + 1 * 0; omega
    · show 0 + 1 * (y 2).val = 128 + 1 * (((y 2).val - 128) % 128); omega
    · show 0 + 1 * (y 3).val = 0 + 1 * (y 3).val; rfl

/-- A load of 80 rows that two stores filled, the lower 16 last. -/
theorem read_above' (v : View sig κ' sp S8x160x256 .bf16) (a b c : ℕ) (A : Vec Ideal S1x64x256 .bf16) (B : Vec Ideal S1x16x256 .bf16) (hA hB h)
    (L : List (View.Piece (Elt Ideal) S8x160x256 .bf16)) (hc : c = b + 64) :
    v.readCov (⟨Rect.unit (s := S8x160x256) ![a, c, 0] ![1, 16, 256] hB, B⟩
      :: ⟨Rect.unit (s := S8x160x256) ![a, b, 0] ![1, 64, 256] hA, A⟩ :: L)
      (Rect.unit (s := S8x160x256) ![a, b, 0] ![1, 80, 256] h).toLoadRect = above' A B := by
  subst hc
  rw [View.readCov_eq_canon']
  funext y
  have h0 : (y 0).val < 1 := (y 0).isLt
  have h1 : (y 1).val < 80 := (y 1).isLt
  unfold above'
  split_ifs with hy
  · rw [View.canon_cons_of_not_mem]
    · refine hit (Rect.unit (s := S8x160x256) ![a, b, 0] S1x64x256.size hA) A L _ (ix3 (0 : Fin 1) ⟨(y 1).val, hy⟩ (y 2 : Fin 256)) fun c => ?_
      fin_cases c
      · show a + 1 * (y 0).val = a + 1 * 0; omega
      · show b + 1 * (y 1).val = b + 1 * (y 1).val; rfl
      · show 0 + 1 * (y 2).val = 0 + 1 * (y 2).val; rfl
    · refine Rect.not_mem_set_of_axis _ _ 1 (b + 64) 16 rfl rfl rfl (Or.inl ?_)
      show b + 1 * (y 1).val < b + 64; omega
  · refine hit (Rect.unit (s := S8x160x256) ![a, b + 64, 0] S1x16x256.size hB) B _ _ (ix3 (0 : Fin 1) (Fin.ofNat 16 ((y 1).val - 64)) (y 2 : Fin 256)) fun c => ?_
    fin_cases c
    · show a + 1 * (y 0).val = a + 1 * 0; omega
    · show b + 1 * (y 1).val = b + 64 + 1 * (((y 1).val - 64) % 16); omega
    · show 0 + 1 * (y 2).val = 0 + 1 * (y 2).val; rfl

/-- A load of some of the 80 rows that the newest store filled. -/
theorem read_part (v : View sig κ' sp S8x160x256 .f32) (a b c n : ℕ) (A : Vec Ideal S1x80x256 .f32) (hA h)
    (L : List (View.Piece (Elt Ideal) S8x160x256 .f32)) (hbc : b ≤ c) (hn : c + n ≤ b + 80) :
    v.readCov (⟨Rect.unit (s := S8x160x256) ![a, b, 0] ![1, 80, 256] hA, A⟩ :: L)
      (Rect.unit (s := S8x160x256) ![a, c, 0] ![1, n, 256] h).toLoadRect = part n (c - b) A := by
  rw [View.readCov_eq_canon']
  funext y
  have h0 : (y 0).val < 1 := (y 0).isLt
  have h1 : (y 1).val < n := (y 1).isLt
  refine hit (Rect.unit (s := S8x160x256) ![a, b, 0] S1x80x256.size hA) A L _ (ix3 (0 : Fin 1) (Fin.ofNat 80 (c - b + (y 1).val)) (y 2 : Fin 256)) fun d => ?_
  fin_cases d
  · show a + 1 * (y 0).val = a + 1 * 0; omega
  · show c + 1 * (y 1).val = b + 1 * ((c - b + (y 1).val) % 80); omega
  · show 0 + 1 * (y 2).val = 0 + 1 * (y 2).val; rfl

/-- All 80 rows. -/
theorem part_all (A : Vec Ideal S1x80x256 .f32) : part 80 0 A = A := by
  refine funext fun y => congrArg A (funext fun a => Fin.ext ?_)
  have h0 : (y 0).val < 1 := (y 0).isLt
  have h1 : (y 1).val < 80 := (y 1).isLt
  fin_cases a
  · show 0 = (y 0).val; omega
  · show (0 + (y 1).val) % 80 = (y 1).val; omega
  · rfl

/-- The weighted sums start at zero. -/
theorem read_zero (v : View sig κ' sp S8x160x256 .f32) (a b : ℕ) (inb hB) (L : List (View.Piece (Elt Ideal) S8x160x256 .f32)) :
    v.readCov (⟨Rect.unit (s := S8x160x256) ![0, 0, 0] ![8, 160, 256] inb, k0_pay3 (F := Ideal)⟩ :: L)
      (Rect.unit (s := S8x160x256) ![a, b, 0] ![1, 80, 256] hB).toLoadRect = fill S1x80x256 (FloatOps.ofBits .f32 0#32 : Ideal .f32) := by
  rw [View.readCov_fill v inb _ L _ (by decide)]; rfl

/-- The maxima start at the mask. -/
theorem read_mask (v : View sig κ' sp S8x2x256 .f32) (a b : ℕ) (inb hB) (L : List (View.Piece (Elt Ideal) S8x2x256 .f32)) :
    v.readCov (⟨Rect.unit (s := S8x2x256) ![0, 0, 0] ![8, 2, 256] inb, k0_pay4 (F := Ideal)⟩ :: L)
      (Rect.unit (s := S8x2x256) ![a, b, 0] ![1, 1, 256] hB).toLoadRect = fill S1x1x256 (Named.named κ "mask" 0xF149F2CA#32 : Ideal .f32) := by
  rw [View.readCov_fill v inb _ L _ (by decide)]; rfl

/-- A vector that is the same everywhere has that value in any shape. -/
theorem shapeCast_fill {s t : Shape} {α : Type} (x : α) (h : s.ShapeCasts t) : shapeCast t (fill s x) h = fill t x := rfl

/-- 64 rows cut out. -/
theorem slice_band (X : FVec Ideal S128x256 .f32) (o : ℕ) (h) : extractStridedSlice S64x256 ![o, 0] X h = band X o := by
  have ho : o + 64 ≤ 128 := h.2 0
  refine funext fun y => congrArg X (funext fun a => Fin.ext ?_)
  have hy : (y 0).val < 64 := (y 0).isLt
  fin_cases a
  · show o + (y 0).val = (o + (y 0).val) % 128; omega
  · show 0 + (y 1).val = (y 1).val; omega

/-- Two blocks joined along their rows, by name. -/
theorem stack_eq (A B : FVec Ideal S64x256 .f32) (h) : concatenate S128x256 0 [⟨S64x256, A⟩, ⟨S64x256, B⟩] h = stack A B := rfl

/-- Two blocks joined along their columns, by name. -/
theorem beside_eq (A B : FVec Ideal S256x128 .bf16) (h) : concatenate S256x256 1 [⟨S256x128, A⟩, ⟨S256x128, B⟩] h = beside A B := rfl

end Cert.KernelIdeal.Att

end
-- ==== Proof.Att.Body.lean ====
/- What the attention kernel's body leaves in its block of the result: the model's tiles, one below another. -/
module

public import proofs.«01_k».proof.Proof.Gen.KernelIdeal.Value
public import proofs.«01_k».proof.Proof.Att.Reads

@[expose] public section

set_option maxRecDepth 65536

noncomputable section

namespace Cert.KernelIdeal.Att
open Cert.KernelIdeal Cert.KernelIdeal.Gen Idealize.ShloMosaic Idealize.ShloMosaic.TcCoe Idealize.SL.Sem

set_option maxHeartbeats 0

/-- The block of the result: eight tiles, one below another. -/
def whole (x0 : Vec Ideal S1x2048x128 .bf16) (x1 : Vec Ideal S1x2048x128 .bf16) (x2 : Vec Ideal S1x2048x128 .bf16) (x3 : Vec Ideal S2048x128 .bf16) (x4 : Vec Ideal S2048x128 .bf16) (x5 : Vec Ideal S1x2048x128 .bf16) (p : BitVec 32) : Vec Ideal S1x2048x128 .bf16 :=
  fun y => tile x0 x1 x2 x3 x4 x5 p ((y 1).val / 256) (ix3 (0 : Fin 1) (Fin.ofNat 256 (y 1).val) (y 2 : Fin 128))

/-- A list of stores that leave tiles of the block, with one more tile stored. -/
theorem piece (x0 x1 x2 x3 x4 x5 p) (i o : ℕ) (ho : o = 256 * i) (h) (w : Vec Ideal S1x256x128 .bf16) (L) (hw : w = tile x0 x1 x2 x3 x4 x5 p i)
    (hL : View.PiecesOf (whole x0 x1 x2 x3 x4 x5 p) L) :
    View.PiecesOf (whole x0 x1 x2 x3 x4 x5 p) (⟨Rect.unit (s := S1x2048x128) ![0, o, 0] S1x256x128.size h, w⟩ :: L) := by
  refine ⟨fun x => ?_, hL⟩
  have h1 : (x 1).val < 256 := (x 1).isLt
  have e1 : (((Rect.unit (s := S1x2048x128) ![0, o, 0] S1x256x128.size h).emb x) 1).val = 256 * i + (x 1).val := by
    show o + 1 * (x 1).val = _
    omega
  have e2 : (((Rect.unit (s := S1x2048x128) ![0, o, 0] S1x256x128.size h).emb x) 2) = x 2 := by
    apply Fin.ext
    show 0 + 1 * (x 2).val = _
    omega
  show w x = tile x0 x1 x2 x3 x4 x5 p _ (ix3 0 (Fin.ofNat 256 _) _)
  rw [hw, e1, e2, show (256 * i + (x 1).val) / 256 = i by omega]
  congr 1
  funext a
  apply Fin.ext
  match a with
  | 0 => have := (x 0).isLt; show (x 0).val = 0; change (x 0).val < 1 at this; omega
  | 1 => show (x 1).val = (256 * i + (x 1).val) % 256; omega
  | 2 => rfl

/-- The body leaves the model's tiles. -/
theorem body (c : Dev nD) (i : grid0.Coords) arg2 harg2 arg3 harg3 arg4 harg4 arg5 harg5 arg6 harg6 arg7 harg7 arg8 harg8 arg9 harg9 arg10 harg10 arg11 harg11 arg12 harg12 arg13 harg13 arg14 harg14 (x0 : Vec Ideal S1x2048x128 .bf16) (x1 : Vec Ideal S1x2048x128 .bf16) (x2 : Vec Ideal S1x2048x128 .bf16) (x3 : Vec Ideal S2048x128 .bf16) (x4 : Vec Ideal S2048x128 .bf16) (x5 : Vec Ideal S1x2048x128 .bf16) : out0_A_6 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 = whole x0 x1 x2 x3 x4 x5 (BitVec.ofNat 32 (i 1).val) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 x0 x1 x2 x3 x4 x5)]
  have hc := fun y => cover0_A_6 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 y
  revert hc
  unfold kernelRun0_A
  dsimp only
  intro hc
  funext y
  refine View.canon_append_of_piecesOf _ [] _ ?_ y (hc y)
  clear hc
  refine piece _ _ _ _ _ _ _ 7 _ (by decide) _ _ _ ?_ <| piece _ _ _ _ _ _ _ 6 _ (by decide) _ _ _ ?_ <| piece _ _ _ _ _ _ _ 5 _ (by decide) _ _ _ ?_ <|
    piece _ _ _ _ _ _ _ 4 _ (by decide) _ _ _ ?_ <| piece _ _ _ _ _ _ _ 3 _ (by decide) _ _ _ ?_ <| piece _ _ _ _ _ _ _ 2 _ (by decide) _ _ _ ?_ <|
    piece _ _ _ _ _ _ _ 1 _ (by decide) _ _ _ ?_ <| piece _ _ _ _ _ _ _ 0 _ (by decide) _ _ _ ?_ trivial
  all_goals clear y
  all_goals
    sl_unfold_run_names
    try unfold k0_pay1 k0_pay751
    unfold k0_pay5 k0_pay6 k0_pay7 k0_pay8 k0_pay9
    simp (disch := decide) only [↓skip₃, ↓skip₄, ↓stack_eq, ↓beside_eq, View.readCov_cons_toLoadRect, ↓read_zero, ↓read_mask, ↓read_above,
      ↓read_above', ↓read_part, ↓read_slab, ↓read_rows, slice_band, part_all, shapeCast_fill, Memref.IsWhole.read_unread, shapeCast_shapeCast,
      tile, accEnd, accAt, maxAt, maxStep, accStep, masked, score, query, key, value, mean, lane, cols, cols', keep, Nat.reduceMul, Nat.reduceAdd,
      Nat.reduceSub]
end Cert.KernelIdeal.Att
end
-- ==== Proof.Att.Joint.lean ====
/- One block of the attention's result against the same block of the reference, where every query, key and decay feature is
   real. -/
module

public import proofs.«01_k».proof.Proof.Att.Column
public import proofs.«01_k».proof.Proof.Att.Ref
public import proofs.«01_k».proof.Proof.Att.RefMax
public import proofs.«01_k».proof.Proof.Att.Body

@[expose] public section

set_option maxRecDepth 16384

noncomputable section

namespace Cert.KernelIdeal.Att

open Cert.ReferenceIdeal.Read Cert.ReferenceIdeal.Att Cert.KernelIdeal Cert.KernelIdeal.Gen Idealize.ShloMosaic Idealize.ShloMosaic.TcCoe Idealize.SL.Sem

/-- An extended real that is a real number. -/
def IsReal (x : EReal) : Prop := ∃ r : ℝ, x = (r : EReal)

/-- A product of reals is real. -/
theorem IsReal.mul {x y : EReal} : IsReal x → IsReal y → IsReal (x * y)
  | ⟨a, ha⟩, ⟨b, hb⟩ => ⟨a * b, by rw [ha, hb, EReal.coe_mul]⟩

/-- A sum of two reals is real. -/
theorem IsReal.add {x y : EReal} : IsReal x → IsReal y → IsReal (x + y)
  | ⟨a, ha⟩, ⟨b, hb⟩ => ⟨a + b, by rw [ha, hb, EReal.coe_add]⟩

/-- A finite sum of reals is real. -/
theorem IsReal.sum {ι : Type} (s : Finset ι) (f : ι → EReal) (h : ∀ x, IsReal (f x)) : IsReal (∑ x ∈ s, f x) := by
  choose g hg using h
  exact ⟨∑ x ∈ s, g x, by rw [← sum_real]; exact Finset.sum_congr rfl fun x _ => hg x⟩

/-- The logarithm of the pattern of 2. -/
theorem log_two : Ideal.log (Ideal.ofBits FTy.f32 1073741824#32) = (Real.log 2 : ℝ) := by
  have h : Ideal.ofBits FTy.f32 1073741824#32 = ((2 : ℝ) : EReal) := by
    simp [Ideal.ofBits, Ideal.ieee]
    rw [← EReal.coe_mul]
    norm_num
  rw [h, Ideal.log_coe, if_neg (by norm_num)]

section

variable (A0 A1 A2 : (⟨Cert.ReferenceIdeal.S8x32768x128, .bf16⟩ : BufTy).Contents (Elt Ideal))
  (A3 A4 : (⟨Cert.ReferenceIdeal.S32768x128, .bf16⟩ : BufTy).Contents (Elt Ideal))
  (A5 : (⟨Cert.ReferenceIdeal.S8x32768x128, .bf16⟩ : BufTy).Contents (Elt Ideal))

/-- Row `n` of batch element `b`. -/
def row (b : Fin 16) (n : Fin 2048) : Fin 32768 := ⟨2048 * b.val + n.val, by omega⟩

/-- The reference's score before the factor log 2 and the mask. -/
def rawAt (b h : Fin 16) (r k : Fin 2048) : EReal :=
  (∑ x : Fin 64, A0 (ix3 ⟨h.val / 2, by omega⟩ ⟨b.val * 2048 + r.val, by omega⟩ ⟨h.val % 2 * 64 + x.val, by omega⟩)
      * A1 (ix3 ⟨h.val / 2, by omega⟩ ⟨b.val * 2048 + k.val, by omega⟩ ⟨h.val % 2 * 64 + x.val, by omega⟩))
    + ∑ x : Fin 8, A4 (ix2 ⟨b.val * 2048 + r.val, by omega⟩ ⟨h.val * 8 + x.val, by omega⟩)
      * A3 (ix2 ⟨b.val * 2048 + k.val, by omega⟩ ⟨h.val * 8 + x.val, by omega⟩)

variable (h0 : ∀ i, IsReal (A0 i)) (h1 : ∀ i, IsReal (A1 i)) (h3 : ∀ i, IsReal (A3 i)) (h4 : ∀ i, IsReal (A4 i))

include h0 h1 h3 h4

/-- Every score is real. -/
theorem rawAt_real (b h : Fin 16) (r k : Fin 2048) : IsReal (rawAt A0 A1 A3 A4 b h r k) :=
  (IsReal.sum _ _ fun _ => (h0 _).mul (h1 _)).add (IsReal.sum _ _ fun _ => (h4 _).mul (h3 _))

/-- A logit of the reference, where the score is `s`. -/
theorem logit_eq (b h : Fin 16) (r k : Fin 2048) (s : ℝ) (hs : rawAt A0 A1 A3 A4 b h r k = (s : EReal)) :
    val_main_v33 (F := Ideal) A0 A1 A3 A4 (ix4 b h r k) = if k.val ≤ r.val then ((s * Real.log 2 : ℝ) : EReal) else ⊥ := by
  unfold rawAt at hs
  rw [logit_at, hs, log_two, ofBits_neg_inf, sle_small _ _ k.isLt r.isLt, ← EReal.coe_mul]
  by_cases hk : k.val ≤ r.val
  · rw [if_pos hk, if_pos hk, Scalar.select, if_pos (by decide)]
  · rw [if_neg hk, if_neg hk, Scalar.select, if_neg (by decide)]

/-- No logit is +∞. -/
theorem logit_ne_top (i : Cert.ReferenceIdeal.S16x16x2048x2048.Idx) : val_main_v33 (F := Ideal) A0 A1 A3 A4 i ≠ (⊤ : EReal) := by
  idx_vars i
  obtain ⟨s, hs⟩ := rawAt_real A0 A1 A3 A4 h0 h1 h3 h4 i0 i1 i2 i3
  rw [logit_eq A0 A1 A3 A4 h0 h1 h3 h4 i0 i1 i2 i3 s hs]
  split
  · exact EReal.coe_ne_top _
  · exact bot_ne_top

/-- A weight of the reference. -/
theorem prob_eq (b h : Fin 16) (r k : Fin 2048) (s : ℕ → ℝ) (hs : ∀ n : Fin 2048, rawAt A0 A1 A3 A4 b h r n = (s n.val : EReal)) :
    val_main_v44 (F := Ideal) A0 A1 A3 A4 (ix4 b h r k)
      = ((weight s r.val k.val / ∑ n ∈ Finset.range 2048, weight s r.val n : ℝ) : EReal) := by
  obtain ⟨μ, hμ⟩ := max_real A0 A1 A3 A4 b h r r (logit_ne_top A0 A1 A3 A4 h0 h1 h3 h4)
    (by rw [logit_eq A0 A1 A3 A4 h0 h1 h3 h4 b h r r _ (hs r), if_pos le_rfl]; exact EReal.coe_ne_bot _)
  have he : ∀ n : Fin 2048, Ideal.exp (val_main_v33 (F := Ideal) A0 A1 A3 A4 (ix4 b h r n) - (μ : EReal))
      = ((weight s r.val n.val * Real.exp (-μ) : ℝ) : EReal) := by
    intro n
    refine exp_sub _ _ _ ?_
    rw [logit_eq A0 A1 A3 A4 h0 h1 h3 h4 b h r n _ (hs n), weight]
    by_cases hn : n.val ≤ r.val
    · rw [if_pos hn, if_pos hn, exp_real, Real.rpow_def_of_pos (by norm_num), mul_comm]
    · rw [if_neg hn, if_neg hn, exp_bot]
      rfl
  have hw := weight_sum_pos s r.val 2048 r.isLt
  have hsum : ∑ n : Fin 2048, Ideal.exp (val_main_v33 (F := Ideal) A0 A1 A3 A4 (ix4 b h r n) - (μ : EReal))
      = (((∑ n ∈ Finset.range 2048, weight s r.val n) * Real.exp (-μ) : ℝ) : EReal) := by
    refine (Finset.sum_congr rfl fun n _ => he n).trans ?_
    rw [sum_real, ← Finset.sum_mul, ← Finset.sum_range (fun n => weight s r.val n)]
  rw [prob_at, hμ, hsum, he]
  generalize ∑ n ∈ Finset.range 2048, weight s r.val n = W at hw
  rw [Ideal.div_coe (mul_pos hw (Real.exp_pos _)).ne', ← EReal.coe_mul]
  refine congrArg Real.toEReal ?_
  have := (Real.exp_pos (-μ)).ne'
  have := hw.ne'
  field_simp

variable (b : Fin 16) (p : Fin 8) (x0 x1 x2 : Vec Ideal S1x2048x128 .bf16) (x3 x4 : Vec Ideal S2048x128 .bf16)
  (x5 : Vec Ideal S1x2048x128 .bf16)
  (e0 : ∀ (n : Fin 2048) (l : Fin 128), x0 (ix3 0 n l) = A0 (ix3 p (row b n) l))
  (e1 : ∀ (n : Fin 2048) (l : Fin 128), x1 (ix3 0 n l) = A1 (ix3 p (row b n) l))
  (e2 : ∀ (n : Fin 2048) (l : Fin 128), x2 (ix3 0 n l) = A2 (ix3 p (row b n) l))
  (e3 : ∀ (n : Fin 2048) (l : Fin 128), x3 (ix2 n l) = A3 (ix2 (row b n) l))
  (e4 : ∀ (n : Fin 2048) (l : Fin 128), x4 (ix2 n l) = A4 (ix2 (row b n) l))
  (e5 : ∀ (n : Fin 2048) (l : Fin 128), x5 (ix3 0 n l) = A5 (ix3 p (row b n) l))

omit h0 h1 h3 h4 in
include e0 e1 e3 e4 in
/-- The kernel's logit on its blocks is the reference's score on the whole arrays. -/
theorem logit_raw (h : Fin 2) (t n : Fin 2048) : logit x0 x1 x3 x4 p h t n
    = rawAt A0 A1 A3 A4 b ⟨p.val * 2 + h.val, by omega⟩ t n := by
  unfold logit rawAt
  refine congrArg₂ _ (Finset.sum_congr rfl fun e _ => congrArg₂ _ ?_ ?_) (Finset.sum_congr rfl fun e _ => congrArg₂ _ ?_ ?_)
  · rw [e0]
    congr 2
    all_goals (apply Fin.ext; simp only [row, Fin.ofNat]; omega)
  · rw [e1]
    congr 2
    all_goals (apply Fin.ext; simp only [row, Fin.ofNat]; omega)
  · rw [e4]
    congr 2
    all_goals (apply Fin.ext; simp only [row, Fin.ofNat]; omega)
  · rw [e3]
    congr 2
    all_goals (apply Fin.ext; simp only [row, Fin.ofNat]; omega)

include e0 e1 e2 e3 e4 e5

/-- A block of the result, element by element, is the reference's. -/
theorem whole_eq (t : Fin 2048) (l : Fin 128) : whole x0 x1 x2 x3 x4 x5 (BitVec.ofNat 32 p.val) (ix3 0 t l)
    = val_main_v51 (F := Ideal) A0 A1 A2 A3 A4 A5 (ix3 p (row b t) l) := by
  have hr := fun n : ℕ => rawAt_real A0 A1 A3 A4 h0 h1 h3 h4 b ⟨p.val * 2 + l.val / 64, by omega⟩ t (Fin.ofNat 2048 n)
  choose s hs using hr
  have hh : l.val / 64 < 2 := by omega
  have ht : 256 * (t.val / 256) + (Fin.ofNat 256 t.val).val = t.val := by simp only [Fin.ofNat]; omega
  have hT : Fin.ofNat 2048 t.val = t := Fin.ext (Nat.mod_eq_of_lt t.isLt)
  have hmean := mean_accEnd x0 x1 x2 x3 x4 p ⟨l.val / 64, hh⟩ (t.val / 256) (Fin.ofNat 256 t.val) s
    (fun n => by rw [ht, hT, logit_raw A0 A1 A3 A4 b p x0 x1 x3 x4 e0 e1 e3 e4]; exact hs n) (by omega) ⟨l.val % 64, by omega⟩
  have hst : stack (mean (accEnd x0 x1 x2 x3 x4 (BitVec.ofNat 32 p.val) 0 (t.val / 256)))
      (mean (accEnd x0 x1 x2 x3 x4 (BitVec.ofNat 32 p.val) 1 (t.val / 256))) (ix2 l (Fin.ofNat 256 t.val))
      = mean (accEnd x0 x1 x2 x3 x4 (BitVec.ofNat 32 p.val) (l.val / 64) (t.val / 256)) (ix2 ⟨l.val % 64, by omega⟩ (Fin.ofNat 256 t.val)) := by
    rw [stack_at]
    by_cases hl : l.val < 64
    · have h₁ : l.val / 64 = 0 := by omega
      have h₂ : l.val % 64 = l.val := by omega
      rw [dif_pos hl]
      simp only [h₁, h₂]
    · have h₁ : l.val / 64 = 1 := by omega
      have h₂ : l.val % 64 = l.val - 64 := by omega
      rw [dif_neg hl]
      simp only [h₁, h₂]
  have hw : whole x0 x1 x2 x3 x4 x5 (BitVec.ofNat 32 p.val) (ix3 0 t l)
      = tile x0 x1 x2 x3 x4 x5 (BitVec.ofNat 32 p.val) (t.val / 256) (ix3 0 (Fin.ofNat 256 t.val) l) := rfl
  rw [hw, tile_at, hst, hmean, ht, hT, e5, out_at, Finset.sum_range]
  refine congrArg₂ _ (Finset.sum_congr rfl fun n _ => ?_) rfl
  have hp := prob_eq A0 A1 A3 A4 h0 h1 h3 h4 b ⟨p.val * 2 + l.val / 64, by omega⟩ t n s (fun k => by
    have := hs k.val
    rwa [show Fin.ofNat 2048 k.val = k from Fin.ext (Nat.mod_eq_of_lt k.isLt)] at this)
  have hN : Fin.ofNat 2048 n.val = n := Fin.ext (Nat.mod_eq_of_lt n.isLt)
  have hL : Fin.ofNat 128 (64 * (l.val / 64) + l.val % 64) = l := by apply Fin.ext; simp only [Fin.ofNat]; omega
  rw [← hp, hN, e2]
  simp only [hL]
  refine congrArg₂ _ ?_ ?_
  · congr 2
    apply Fin.ext
    simp only [row]
    omega
  · congr 2
    all_goals (apply Fin.ext; simp only [row]; omega)

end

end Cert.KernelIdeal.Att

end
-- ==== Proof.Att.Final.lean ====
/- The array the attention kernel leaves is the reference's, where every query, key and decay feature is real. -/
module

public import proofs.«01_k».proof.Proof.Gen.KernelIdeal.Value
public import proofs.«01_k».proof.Proof.Att.Joint

@[expose] public section

set_option maxRecDepth 16384

noncomputable section

namespace Cert.KernelIdeal.Att

open Cert.ReferenceIdeal.Read Cert.KernelIdeal Cert.KernelIdeal.Gen Idealize.ShloMosaic Idealize.ShloMosaic.TcCoe Idealize.SL.Sem

variable (m : (ℓ : Loc nD τ sig) → Buf (Elt Ideal) ℓ)

/-- The pair of heads and the batch element of a grid point. -/
theorem coords_at : ∀ t : Fin grid0.N, ((grid0.coords t) 1).val = t.val % 8 := by decide +kernel

/-- Row `r` of the block at grid point `t` is row `2048 (t / 8) + r` of slab `t % 8`. -/
theorem emb_at (t : Fin cfg0.grid.N) (r : Fin 2048) (l : Fin 128) : (win0_6.blk t).view.emb (ix3 0 r l)
    = (ix3 ⟨t.val % 8, by omega⟩ ⟨2048 * (t.val / 8) + r.val, by have := t.isLt; have : cfg0.grid.N = 128 := N_0; omega⟩ l
      : S8x32768x128.Idx) := by
  have idx : ∀ t : Fin grid0.N, win0_6.index t 0 = t.val % 8 ∧ win0_6.index t 1 = t.val / 8 ∧ win0_6.index t 2 = 0 := by
    decide +kernel
  blk_ext [idx t]

/-- After the run the result array is the reference's. -/
theorem final (c : Dev nD)
    (h0 : ∀ i, IsReal (m ((c : Thread nD τ).loc main_arg0) i)) (h1 : ∀ i, IsReal (m ((c : Thread nD τ).loc main_arg1) i))
    (h3 : ∀ i, IsReal (m ((c : Thread nD τ).loc main_arg3) i)) (h4 : ∀ i, IsReal (m ((c : Thread nD τ).loc main_arg4) i)) :
    (dats m 0 c).arrAt 6 cfg0.N
      = val_main_v51 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  blk_simp
  rw [after0_6]
  simp only [outsAt0]
  rw [body]
  idx_vars y
  obtain rfl : y0 = 0 := Subsingleton.elim _ _
  have hN : t.val < 128 := by have := t.isLt; have : cfg0.grid.N = 128 := N_0; omega
  have idx0 : ∀ t : Fin grid0.N, win0_0.index t 0 = t.val % 8 ∧ win0_0.index t 1 = t.val / 8 ∧ win0_0.index t 2 = 0 := by
    decide +kernel
  have idx1 : ∀ t : Fin grid0.N, win0_1.index t 0 = t.val % 8 ∧ win0_1.index t 1 = t.val / 8 ∧ win0_1.index t 2 = 0 := by
    decide +kernel
  have idx2 : ∀ t : Fin grid0.N, win0_2.index t 0 = t.val % 8 ∧ win0_2.index t 1 = t.val / 8 ∧ win0_2.index t 2 = 0 := by
    decide +kernel
  have idx3 : ∀ t : Fin grid0.N, win0_3.index t 0 = t.val / 8 ∧ win0_3.index t 1 = 0 := by decide +kernel
  have idx4 : ∀ t : Fin grid0.N, win0_4.index t 0 = t.val / 8 ∧ win0_4.index t 1 = 0 := by decide +kernel
  have idx5 : ∀ t : Fin grid0.N, win0_5.index t 0 = t.val % 8 ∧ win0_5.index t 1 = t.val / 8 ∧ win0_5.index t 2 = 0 := by
    decide +kernel
  rw [coords_at t]
  refine (whole_eq (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    h0 h1 h3 h4 ⟨t.val / 8, by omega⟩ ⟨t.val % 8, by omega⟩ (iblk m c 0 t) (iblk m c 1 t) (iblk m c 2 t) (iblk m c 3 t)
    (iblk m c 4 t) (iblk m c 5 t) ?_ ?_ ?_ ?_ ?_ ?_ y1 y2).trans ?_
  · intro n l
    blk_ext! [iblk, V, row, idx0 t]
  · intro n l
    blk_ext! [iblk, V, row, idx1 t]
  · intro n l
    blk_ext! [iblk, V, row, idx2 t]
  · intro n l
    blk_ext! [iblk, V, row, idx3 t]
  · intro n l
    blk_ext! [iblk, V, row, idx4 t]
  · intro n l
    blk_ext! [iblk, V, row, idx5 t]
  · exact (congrArg _ (emb_at t y1 y2)).symm

end Cert.KernelIdeal.Att

end
-- ==== Proof.Att.Pre.lean ====
/- The precondition of the attention's value claim, unfolded: every query, key and decay feature is real. -/
module

public import proofs.«01_k».proof.Pre_finite_logits
public import proofs.«01_k».proof.Proof.Att.Joint
public import Idealize.ShloMosaic.Lib.ReduceAll

@[expose] public section

set_option maxRecDepth 16384

noncomputable section

namespace Cert.KernelIdeal.Att

open Idealize.ShloMosaic Idealize.ShloMosaic.TcCoe Idealize.SL.Sem

/-- The shape relations the precondition's program takes. -/
theorem pre_facts : Cert.Pre_finite_logits.Facts := by
  constructor <;> decide

/-- An absolute value below `⊤` is a real number's. -/
theorem isReal_of_abs_lt (x : EReal) (h : max x (-x) < ⊤) : IsReal x := by
  induction x using EReal.rec with
  | bot => simp at h
  | top => simp at h
  | coe r => exact ⟨r, rfl⟩

/-- A conjunction of bits is one where both are. -/
theorem and_eq_one : ∀ a b : BitVec 1, IntOp.andi a b = 1#1 → a = 1#1 ∧ b = 1#1 := by decide

/-- An element of an array all of whose absolute values compare below infinity is real. -/
theorem isReal_of_cmp (x : EReal) (h : FloatOps.cmpf (F := Ideal) (φ := .f32) .olt (max x (-x)) (Ideal.ofBits .f32 2139095040#32) = 1#1) :
    IsReal x := by
  rw [ofBits_inf] at h
  refine isReal_of_abs_lt x ?_
  by_contra hn
  have : FloatOps.cmpf (F := Ideal) (φ := .f32) .olt (max x (-x)) (⊤ : EReal) = 0#1 := by
    show BitVec.ofBool _ = _
    simp [hn]
  rw [this] at h
  exact absurd h (by decide)

section

variable [Cert.Pre_finite_logits.Facts]
variable (A0 A1 A2 : FVec Ideal Cert.Pre_finite_logits.S8x32768x128 .bf16) (A3 A4 : FVec Ideal Cert.Pre_finite_logits.S32768x128 .bf16)
  (A5 : FVec Ideal Cert.Pre_finite_logits.S8x32768x128 .bf16)

/-- What the precondition says of the arrays. -/
theorem pre_real (h : Cert.Pre_finite_logits.fn (F := Ideal) A0 A1 A2 A3 A4 A5 = fun _ => 1#1) :
    (∀ i, IsReal (A0 i)) ∧ (∀ i, IsReal (A1 i)) ∧ (∀ i, IsReal (A3 i)) ∧ (∀ i, IsReal (A4 i)) := by
  have h := congrFun h ix0
  unfold Cert.Pre_finite_logits.fn Cert.Pre_finite_logits.fn_part1 at h
  dsimp only at h
  obtain ⟨h, h4⟩ := and_eq_one _ _ h
  obtain ⟨h, h3⟩ := and_eq_one _ _ h
  obtain ⟨h0, h1⟩ := and_eq_one _ _ h
  refine ⟨fun i => isReal_of_cmp _ ?_, fun i => isReal_of_cmp _ ?_, fun i => isReal_of_cmp _ ?_, fun i => isReal_of_cmp _ ?_⟩
  · exact Host.reduce_andi_all _ _ _ _ _ h0 i
  · exact Host.reduce_andi_all _ _ _ _ _ h1 i
  · exact Host.reduce_andi_all _ _ _ _ _ h3 i
  · exact Host.reduce_andi_all _ _ _ _ _ h4 i

end

end Cert.KernelIdeal.Att

end
-- ==== Proof.In.Reads.lean ====
/- What the input projection's loads read: whole operands, sections of the weights, slabs of the gains. -/
module

public import proofs.«01_k».proof.Proof.Gen.Kernel3Ideal.Skeleton
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.In

open Cert.Kernel3Ideal Cert.Kernel3Ideal.Gen Idealize.ShloMosaic Idealize.ShloMosaic.TcCoe Idealize.SL.Sem

variable {κ' : Kind} {sp : Space}

/-- The section of the weights that begins at column `o`. -/
def cols (w : Vec Ideal S1024x7168 .bf16) (o : ℕ) : Vec Ideal S1024x1024 .bf16 :=
  fun y => w (ix2 (y 0 : Fin 1024) (Fin.ofNat 7168 (o + (y 1).val)))

/-- The 128 gains that begin at `o`. -/
def gains (g : Vec Ideal S1x1024 .f32) (o : ℕ) : Vec Ideal S1x128 .f32 :=
  fun y => g (ix2 (y 0 : Fin 1) (Fin.ofNat 1024 (o + (y 1).val)))

theorem read_rows (v : View sig κ' sp S512x1024 .f32) (f : v.ty.Contents (Elt Ideal)) (h) :
    v.readAt (Elt Ideal) (Rect.unit (s := S512x1024) ![0, 0] ![512, 1024] h).toLoadRect f = v.read (Elt Ideal) f := by
  refine funext fun y => congrArg (v.read (Elt Ideal) f) (funext fun a => Fin.ext ?_)
  fin_cases a
  · show 0 + 1 * (y 0).val = (y 0).val; omega
  · show 0 + 1 * (y 1).val = (y 1).val; omega

theorem read_gain (v : View sig κ' sp S1x1024 .f32) (f : v.ty.Contents (Elt Ideal)) (h) :
    v.readAt (Elt Ideal) (Rect.unit (s := S1x1024) ![0, 0] ![1, 1024] h).toLoadRect f = v.read (Elt Ideal) f := by
  refine funext fun y => congrArg (v.read (Elt Ideal) f) (funext fun a => Fin.ext ?_)
  fin_cases a
  · show 0 + 1 * (y 0).val = (y 0).val; omega
  · show 0 + 1 * (y 1).val = (y 1).val; omega

theorem read_cols (v : View sig κ' sp S1024x7168 .bf16) (f : v.ty.Contents (Elt Ideal)) (o : ℕ) (h) :
    v.readAt (Elt Ideal) (Rect.unit (s := S1024x7168) ![0, o] ![1024, 1024] h).toLoadRect f = cols (v.read (Elt Ideal) f) o := by
  have ho : o + 1024 ≤ 7168 := h 1
  refine funext fun y => congrArg (v.read (Elt Ideal) f) (funext fun a => Fin.ext ?_)
  have hy : (y 1).val < 1024 := (y 1).isLt
  fin_cases a
  · show 0 + 1 * (y 0).val = (y 0).val; omega
  · show o + 1 * (y 1).val = (o + (y 1).val) % 7168; omega

theorem read_gains (v : View sig κ' sp S1x1024 .f32) (f : v.ty.Contents (Elt Ideal)) (o : ℕ) (h) :
    v.readAt (Elt Ideal) (Rect.unit (s := S1x1024) ![0, o] ![1, 128] h).toLoadRect f = gains (v.read (Elt Ideal) f) o := by
  have ho : o + 128 ≤ 1024 := h 1
  refine funext fun y => congrArg (v.read (Elt Ideal) f) (funext fun a => Fin.ext ?_)
  have hy : (y 1).val < 128 := (y 1).isLt
  fin_cases a
  · show 0 + 1 * (y 0).val = (y 0).val; omega
  · show o + 1 * (y 1).val = (o + (y 1).val) % 1024; omega

end Cert.Kernel3Ideal.In

end
-- ==== Proof.In.Model.lean ====
/- What one grid point of the input projection computes, as plain functions, and that the stored slabs are these. -/
module

public import proofs.«01_k».proof.Proof.In.Reads

@[expose] public section

set_option maxRecDepth 65536

noncomputable section

namespace Cert.Kernel3Ideal.In

open Cert.Kernel3Ideal Cert.Kernel3Ideal.Gen Idealize.ShloMosaic Idealize.ShloMosaic.TcCoe Idealize.SL.Sem

/-- Column `128 p + l` of a section: lane `l` of slab `p`. -/
def lane (p : Fin 8) (l : Fin 128) : Fin 1024 := ⟨128 * p.val + l.val, by omega⟩

/-- Column `x` of the head that lane `l` of slab `p` belongs to. -/
def mate (p : Fin 8) (l : Fin 128) (x : Fin 64) : Fin 1024 := ⟨128 * p.val + (64 * (l.val / 64) + x.val), by omega⟩

/-- The head norm of one lane of a row, without its gain. -/
def normed (f : Fin 1024 → EReal) (p : Fin 8) (l : Fin 128) : EReal :=
  f (lane p l) * Ideal.rsqrt (Ideal.div (∑ x, f (mate p l x) * f (mate p l x)) (Ideal.ofBits FTy.f32 1115684864#32)
    + Ideal.ofBits FTy.f32 897988541#32)

/-- The gate, by the hyperbolic tangent. -/
def gate (t : EReal) : EReal :=
  Ideal.ofBits FTy.f32 1056964608#32 * t
    + Ideal.ofBits FTy.f32 1056964608#32 * t * Ideal.tanh (Ideal.ofBits FTy.f32 1056964608#32 * t)

/-- The keys' block, from their section of the projection and the gains. -/
def kblock (Z : FVec Ideal S512x1024 .f32) (g : Vec Ideal S1x1024 .f32) : Vec Ideal S8x512x128 .bf16 :=
  fun y => normed (fun n => Z (ix2 (y 1 : Fin 512) n)) (y 0) (y 2) * g (ix2 (0 : Fin 1) (lane (y 0) (y 2)))

/-- The queries' block: as the keys', in units of log 2 and scaled. -/
def qblock (Z : FVec Ideal S512x1024 .f32) (g : Vec Ideal S1x1024 .f32) : Vec Ideal S8x512x128 .bf16 :=
  fun y => normed (fun n => Z (ix2 (y 1 : Fin 512) n)) (y 0) (y 2) * g (ix2 (0 : Fin 1) (lane (y 0) (y 2)))
    * Ideal.ofBits FTy.f32 1043900987#32

/-- The values' block. -/
def vblock (Z : FVec Ideal S512x1024 .f32) : Vec Ideal S8x512x128 .bf16 :=
  fun y => Z (ix2 (y 1 : Fin 512) (lane (y 0) (y 2)))

/-- The gates' block. -/
def gblock (Z : FVec Ideal S512x1024 .f32) : Vec Ideal S8x512x128 .bf16 :=
  fun y => gate (Z (ix2 (y 1 : Fin 512) (lane (y 0) (y 2))))

/-- A list of stores that leave slabs of a block, with one more slab stored. -/
theorem piece (G : Vec Ideal S8x512x128 .bf16) (p : Fin 8) (o : ℕ) (ho : o = p.val) (h) (w : Vec Ideal S1x512x128 .bf16) (L)
    (hw : ∀ (r : Fin 512) (l : Fin 128), w (ix3 (0 : Fin 1) r l) = G (ix3 p r l)) (hL : View.PiecesOf G L) :
    View.PiecesOf G (⟨Rect.unit (s := S8x512x128) ![o, 0, 0] S1x512x128.size h, w⟩ :: L) := by
  refine ⟨fun x => ?_, hL⟩
  have e : (Rect.unit (s := S8x512x128) ![o, 0, 0] S1x512x128.size h).emb x = ix3 p (x 1 : Fin 512) (x 2 : Fin 128) := by
    funext a
    apply Fin.ext
    match a with
    | 0 => have := (x 0).isLt; change (x 0).val < 1 at this; show o + 1 * (x 0).val = p.val; omega
    | 1 => show 0 + 1 * (x 1).val = (x 1).val; omega
    | 2 => show 0 + 1 * (x 2).val = (x 2).val; omega
  have e' : x = (ix3 (0 : Fin 1) (x 1 : Fin 512) (x 2 : Fin 128) : S1x512x128.Idx) := by
    funext a
    apply Fin.ext
    match a with
    | 0 => have := (x 0).isLt; change (x 0).val < 1 at this; show (x 0).val = 0; omega
    | 1 => rfl
    | 2 => rfl
  exact (congrArg w e').trans ((hw (x 1) (x 2)).trans (congrArg G e.symm))

/-- The comparison of a lane with 64. -/
theorem cmp_lane (l : Fin 128) : IntOp.cmpi CmpIPredicate.slt (BitVec.ofNat 32 l.val) 64#32 = if l.val < 64 then 1#1 else 0#1 := by
  revert l; decide +kernel

theorem sel_one (a b : EReal) : Scalar.select 1#1 a b = a := if_pos (by decide)
theorem sel_zero (a b : EReal) : Scalar.select 0#1 a b = b := if_neg (by decide)

/-- The masked sums over a slab's 128 lanes, selected by the lane: the sum over the lane's head. -/
theorem head_sum (sq : Fin 128 → EReal) (l : Fin 128) :
    Scalar.select (IntOp.cmpi CmpIPredicate.slt (BitVec.ofNat 32 l.val) 64#32)
      (∑ x : Fin 128, Scalar.select (IntOp.cmpi CmpIPredicate.slt (BitVec.ofNat 32 x.val) 64#32) (sq x) 0)
      (∑ x : Fin 128, Scalar.select (IntOp.cmpi CmpIPredicate.slt (BitVec.ofNat 32 x.val) 64#32) 0 (sq x))
      = ∑ x : Fin 64, sq ⟨64 * (l.val / 64) + x.val, by omega⟩ := by
  have h1 : ∀ x : Fin 64, ((Fin.castAdd 64 x : Fin (64 + 64)) : Fin 128).val < 64 := fun x => x.isLt
  have h2 : ∀ x : Fin 64, ¬ ((Fin.natAdd 64 x : Fin (64 + 64)) : Fin 128).val < 64 := fun x => by simp
  rw [Fin.sum_univ_add (a := 64) (b := 64), Fin.sum_univ_add (a := 64) (b := 64)]
  simp only [cmp_lane, h1, h2, if_true, if_false]
  by_cases hl : l.val < 64
  · rw [if_pos hl]
    simp only [sel_one, sel_zero, Finset.sum_const_zero, add_zero, zero_add]
    refine Finset.sum_congr rfl fun (x : Fin 64) _ => ?_
    apply congrArg sq
    apply Fin.ext
    show x.val = 64 * (l.val / 64) + x.val
    omega
  · rw [if_neg hl]
    simp only [sel_one, sel_zero, Finset.sum_const_zero, add_zero, zero_add]
    refine Finset.sum_congr rfl fun (x : Fin 64) _ => ?_
    apply congrArg sq
    apply Fin.ext
    show 64 + x.val = 64 * (l.val / 64) + x.val
    omega

/-- Multiplying by the pattern of 1/64 is dividing by the pattern of 64. -/
theorem div_64 (s : EReal) : s * Ideal.ofBits FTy.f32 1015021568#32 = Ideal.div s (Ideal.ofBits FTy.f32 1115684864#32) := by
  have e1 : Ideal.ofBits FTy.f32 1015021568#32 = (((1 : ℝ) / 64 : ℝ) : EReal) := by
    simp [Ideal.ofBits, Ideal.ieee]
    rw [← EReal.coe_mul]
    norm_num
  have e2 : Ideal.ofBits FTy.f32 1115684864#32 = ((64 : ℝ) : EReal) := by
    simp [Ideal.ofBits, Ideal.ieee]
    rw [← EReal.coe_mul]
    norm_num
  rw [e1, e2, Ideal.div_coe (by norm_num)]

/-- The kernel's head norm of one lane is the model's. -/
theorem k_at (Z : FVec Ideal S512x1024 .f32) (g : Vec Ideal S1x1024 .f32) (p : Fin 8) (i : Fin 512) (e : Fin 128 → Fin 1024) (l : Fin 128)
    (o : ℕ) (he : ∀ l, (e l).val = 128 * p.val + l.val) (ho : o = 128 * p.val) :
    Z (ix2 i (e l)) * Ideal.rsqrt
        (Scalar.select (IntOp.cmpi CmpIPredicate.slt (BitVec.ofNat 32 l.val) 64#32)
              (∑ x : Fin 128, Scalar.select (IntOp.cmpi CmpIPredicate.slt (BitVec.ofNat 32 x.val) 64#32) (Z (ix2 i (e x)) * Z (ix2 i (e x))) 0)
              (∑ x : Fin 128, Scalar.select (IntOp.cmpi CmpIPredicate.slt (BitVec.ofNat 32 x.val) 64#32) 0 (Z (ix2 i (e x)) * Z (ix2 i (e x))))
            * Ideal.ofBits FTy.f32 1015021568#32 + Ideal.ofBits FTy.f32 897988541#32)
      * gains g o (ix2 (0 : Fin 1) l) = kblock Z g (ix3 p i l) := by
  rw [head_sum, div_64]
  have e1 : ∀ l, e l = lane p l := fun l => Fin.ext (he l)
  have e2 : gains g o (ix2 (0 : Fin 1) l) = g (ix2 (0 : Fin 1) (lane p l)) := by
    refine congrArg g (funext fun a => ?_)
    match a with
    | 0 => rfl
    | 1 => exact Fin.ext (show (o + l.val) % 1024 = 128 * p.val + l.val by omega)
  rw [e2]
  simp only [e1]
  rfl

/-- The kernel's queries, likewise. -/
theorem q_at (Z : FVec Ideal S512x1024 .f32) (g : Vec Ideal S1x1024 .f32) (p : Fin 8) (i : Fin 512) (e : Fin 128 → Fin 1024) (l : Fin 128)
    (o : ℕ) (he : ∀ l, (e l).val = 128 * p.val + l.val) (ho : o = 128 * p.val) :
    Z (ix2 i (e l)) * Ideal.rsqrt
        (Scalar.select (IntOp.cmpi CmpIPredicate.slt (BitVec.ofNat 32 l.val) 64#32)
              (∑ x : Fin 128, Scalar.select (IntOp.cmpi CmpIPredicate.slt (BitVec.ofNat 32 x.val) 64#32) (Z (ix2 i (e x)) * Z (ix2 i (e x))) 0)
              (∑ x : Fin 128, Scalar.select (IntOp.cmpi CmpIPredicate.slt (BitVec.ofNat 32 x.val) 64#32) 0 (Z (ix2 i (e x)) * Z (ix2 i (e x))))
            * Ideal.ofBits FTy.f32 1015021568#32 + Ideal.ofBits FTy.f32 897988541#32)
      * gains g o (ix2 (0 : Fin 1) l) * Ideal.ofBits FTy.f32 1043900987#32 = qblock Z g (ix3 p i l) :=
  congrArg (· * Ideal.ofBits FTy.f32 1043900987#32) (k_at Z g p i e l o he ho)

end Cert.Kernel3Ideal.In

end
-- ==== Proof.In.Pieces.lean ====
/- The slabs the input projection's body stores in its queries', keys', values' and gates' blocks are the model's. -/
module

public import proofs.«01_k».proof.Proof.In.Model

@[expose] public section

set_option maxRecDepth 65536

noncomputable section

namespace Cert.Kernel3Ideal.In

open Cert.Kernel3Ideal Cert.Kernel3Ideal.Gen Idealize.ShloMosaic Idealize.ShloMosaic.TcCoe Idealize.SL.Sem

set_option maxHeartbeats 0

/-- The four sections' products are one function of the operands. -/
theorem pay202_eq : @k0_pay202 Ideal = @k0_pay20 Ideal := rfl
theorem pay388_eq : @k0_pay388 Ideal = @k0_pay20 Ideal := rfl
theorem pay543_eq : @k0_pay543 Ideal = @k0_pay20 Ideal := rfl

theorem q_pieces (r : FVec Ideal S512x1 .f32) (h : FVec Ideal S512x1024 .bf16) (x2 : Vec Ideal S1024x7168 .bf16) (x6 : Vec Ideal S1x1024 .f32) :
    View.PiecesOf (qblock (k0_pay20 r h (cols x2 0)) x6)
    [⟨Rect.unit ![7, 0, 0] ![1, 512, 128] inb_S8x512x128_S1x512x128_7_0_0,
        k0_pay55 (k0_pay20 r h (cols x2 0)) (gains x6 896)⟩,
      ⟨Rect.unit ![6, 0, 0] ![1, 512, 128] inb_S8x512x128_S1x512x128_6_0_0,
        k0_pay54 (k0_pay53 (k0_pay20 r h (cols x2 0)) (gains x6 768))⟩,
      ⟨Rect.unit ![5, 0, 0] ![1, 512, 128] inb_S8x512x128_S1x512x128_5_0_0,
        k0_pay52 (k0_pay51 (k0_pay20 r h (cols x2 0)) (gains x6 640))⟩,
      ⟨Rect.unit ![4, 0, 0] ![1, 512, 128] inb_S8x512x128_S1x512x128_4_0_0,
        k0_pay50 (k0_pay47 (k0_pay20 r h (cols x2 0))) (k0_pay48 (gains x6 512)) (k0_pay49 (k0_pay20 r h (cols x2 0)))⟩,
      ⟨Rect.unit ![3, 0, 0] ![1, 512, 128] inb_S8x512x128_S1x512x128_3_0_0,
        k0_pay46 (k0_pay43 (k0_pay20 r h (cols x2 0))) (k0_pay44 (gains x6 384)) (k0_pay45 (k0_pay20 r h (cols x2 0)))
          (FloatOps.ofBits FTy.f32 1015021568#32)⟩,
      ⟨Rect.unit ![2, 0, 0] ![1, 512, 128] inb_S8x512x128_S1x512x128_2_0_0,
        k0_pay42 (k0_pay35 (k0_pay20 r h (cols x2 0))) (k0_pay36 (gains x6 256)) (k0_pay39 (k0_pay20 r h (cols x2 0)))
          (k0_pay40 (k0_pay20 r h (cols x2 0))) k0_pay41⟩,
      ⟨Rect.unit ![1, 0, 0] ![1, 512, 128] inb_S8x512x128_S1x512x128_1_0_0,
        k0_pay34 (k0_pay27 (k0_pay20 r h (cols x2 0))) (k0_pay28 (gains x6 128)) k0_pay29
          (k0_pay30 (k0_pay20 r h (cols x2 0))) (k0_pay31 (k0_pay20 r h (cols x2 0))) k0_pay32 k0_pay33⟩,
      ⟨Rect.unit ![0, 0, 0] ![1, 512, 128] inb_S8x512x128_S1x512x128_0_0_0,
        k0_pay26 (k0_pay21 r h (cols x2 0)) (k0_pay22 (gains x6 0)) k0_pay23 (k0_pay24 r h (cols x2 0))
          (k0_pay25 r h (cols x2 0))⟩] := by
  refine piece _ 7 _ rfl _ _ _ ?_ <| piece _ 6 _ rfl _ _ _ ?_ <| piece _ 5 _ rfl _ _ _ ?_ <| piece _ 4 _ rfl _ _ _ ?_ <| piece _ 3 _ rfl _ _ _ ?_ <| piece _ 2 _ rfl _ _ _ ?_ <| piece _ 1 _ rfl _ _ _ ?_ <| piece _ 0 _ rfl _ _ _ ?_ trivial
  all_goals
    intro i l
    try unfold k0_pay25
    try unfold k0_pay24
    try unfold k0_pay21
    generalize k0_pay20 r h (cols x2 0) = Z
    unfold_payloads
    pointwise []
    first
      | exact q_at Z x6 0 i (fun l => ⟨l.val, by omega⟩) l 0 (fun l => (Nat.zero_add _).symm) rfl
      | exact q_at Z x6 1 i (fun l => ⟨128 + l.val, by omega⟩) l 128 (fun l => rfl) rfl
      | exact q_at Z x6 2 i (fun l => ⟨256 + l.val, by omega⟩) l 256 (fun l => rfl) rfl
      | exact q_at Z x6 3 i (fun l => ⟨384 + l.val, by omega⟩) l 384 (fun l => rfl) rfl
      | exact q_at Z x6 4 i (fun l => ⟨512 + l.val, by omega⟩) l 512 (fun l => rfl) rfl
      | exact q_at Z x6 5 i (fun l => ⟨640 + l.val, by omega⟩) l 640 (fun l => rfl) rfl
      | exact q_at Z x6 6 i (fun l => ⟨768 + l.val, by omega⟩) l 768 (fun l => rfl) rfl
      | exact q_at Z x6 7 i (fun l => ⟨896 + l.val, by omega⟩) l 896 (fun l => rfl) rfl

theorem k_pieces (r : FVec Ideal S512x1 .f32) (h : FVec Ideal S512x1024 .bf16) (x2 : Vec Ideal S1024x7168 .bf16) (x7 : Vec Ideal S1x1024 .f32) :
    View.PiecesOf (kblock (k0_pay202 r h (cols x2 1024)) x7)
    [⟨Rect.unit ![7, 0, 0] ![1, 512, 128] inb_S8x512x128_S1x512x128_7_0_0,
        k0_pay236 (k0_pay229 (k0_pay202 r h (cols x2 1024))) (k0_pay230 (gains x7 896))
          (k0_pay233 (k0_pay202 r h (cols x2 1024))) (k0_pay234 (k0_pay202 r h (cols x2 1024))) k0_pay235⟩,
      ⟨Rect.unit ![6, 0, 0] ![1, 512, 128] inb_S8x512x128_S1x512x128_6_0_0,
        k0_pay228 (k0_pay223 (k0_pay202 r h (cols x2 1024))) (k0_pay224 (gains x7 768)) k0_pay225
          (k0_pay226 (k0_pay202 r h (cols x2 1024))) (k0_pay227 (k0_pay202 r h (cols x2 1024)))⟩,
      ⟨Rect.unit ![5, 0, 0] ![1, 512, 128] inb_S8x512x128_S1x512x128_5_0_0,
        k0_pay222 (k0_pay219 (k0_pay202 r h (cols x2 1024))) (k0_pay220 (gains x7 640)) k0_pay221⟩,
      ⟨Rect.unit ![4, 0, 0] ![1, 512, 128] inb_S8x512x128_S1x512x128_4_0_0,
        k0_pay218 (k0_pay202 r h (cols x2 1024)) (gains x7 512)⟩,
      ⟨Rect.unit ![3, 0, 0] ![1, 512, 128] inb_S8x512x128_S1x512x128_3_0_0,
        k0_pay217 (k0_pay202 r h (cols x2 1024)) (gains x7 384)⟩,
      ⟨Rect.unit ![2, 0, 0] ![1, 512, 128] inb_S8x512x128_S1x512x128_2_0_0,
        k0_pay216 (k0_pay214 (k0_pay202 r h (cols x2 1024))) (k0_pay215 (gains x7 256))⟩,
      ⟨Rect.unit ![1, 0, 0] ![1, 512, 128] inb_S8x512x128_S1x512x128_1_0_0,
        k0_pay213 (k0_pay210 (k0_pay202 r h (cols x2 1024))) (k0_pay211 (gains x7 128))
          (k0_pay212 (k0_pay202 r h (cols x2 1024)))⟩,
      ⟨Rect.unit ![0, 0, 0] ![1, 512, 128] inb_S8x512x128_S1x512x128_0_0_0,
        k0_pay209 (k0_pay203 r h (cols x2 1024)) (k0_pay204 (gains x7 0)) k0_pay205 (k0_pay207 r h (cols x2 1024))
          (k0_pay208 r h (cols x2 1024))⟩] := by
  refine piece _ 7 _ rfl _ _ _ ?_ <| piece _ 6 _ rfl _ _ _ ?_ <| piece _ 5 _ rfl _ _ _ ?_ <| piece _ 4 _ rfl _ _ _ ?_ <| piece _ 3 _ rfl _ _ _ ?_ <| piece _ 2 _ rfl _ _ _ ?_ <| piece _ 1 _ rfl _ _ _ ?_ <| piece _ 0 _ rfl _ _ _ ?_ trivial
  all_goals
    intro i l
    try unfold k0_pay208
    try unfold k0_pay207
    try unfold k0_pay206
    try unfold k0_pay203
    generalize k0_pay202 r h (cols x2 1024) = Z
    unfold_payloads
    pointwise []
    first
      | exact k_at Z x7 0 i (fun l => ⟨l.val, by omega⟩) l 0 (fun l => (Nat.zero_add _).symm) rfl
      | exact k_at Z x7 1 i (fun l => ⟨128 + l.val, by omega⟩) l 128 (fun l => rfl) rfl
      | exact k_at Z x7 2 i (fun l => ⟨256 + l.val, by omega⟩) l 256 (fun l => rfl) rfl
      | exact k_at Z x7 3 i (fun l => ⟨384 + l.val, by omega⟩) l 384 (fun l => rfl) rfl
      | exact k_at Z x7 4 i (fun l => ⟨512 + l.val, by omega⟩) l 512 (fun l => rfl) rfl
      | exact k_at Z x7 5 i (fun l => ⟨640 + l.val, by omega⟩) l 640 (fun l => rfl) rfl
      | exact k_at Z x7 6 i (fun l => ⟨768 + l.val, by omega⟩) l 768 (fun l => rfl) rfl
      | exact k_at Z x7 7 i (fun l => ⟨896 + l.val, by omega⟩) l 896 (fun l => rfl) rfl

theorem v_pieces (r : FVec Ideal S512x1 .f32) (h : FVec Ideal S512x1024 .bf16) (x2 : Vec Ideal S1024x7168 .bf16) :
    View.PiecesOf (vblock (k0_pay388 r h (cols x2 2048)))
    [⟨Rect.unit ![7, 0, 0] ![1, 512, 128] inb_S8x512x128_S1x512x128_7_0_0, k0_pay397 (k0_pay388 r h (cols x2 2048))⟩,
      ⟨Rect.unit ![6, 0, 0] ![1, 512, 128] inb_S8x512x128_S1x512x128_6_0_0, k0_pay396 (k0_pay388 r h (cols x2 2048))⟩,
      ⟨Rect.unit ![5, 0, 0] ![1, 512, 128] inb_S8x512x128_S1x512x128_5_0_0, k0_pay395 (k0_pay388 r h (cols x2 2048))⟩,
      ⟨Rect.unit ![4, 0, 0] ![1, 512, 128] inb_S8x512x128_S1x512x128_4_0_0, k0_pay394 (k0_pay388 r h (cols x2 2048))⟩,
      ⟨Rect.unit ![3, 0, 0] ![1, 512, 128] inb_S8x512x128_S1x512x128_3_0_0, k0_pay393 (k0_pay388 r h (cols x2 2048))⟩,
      ⟨Rect.unit ![2, 0, 0] ![1, 512, 128] inb_S8x512x128_S1x512x128_2_0_0, k0_pay392 (k0_pay388 r h (cols x2 2048))⟩,
      ⟨Rect.unit ![1, 0, 0] ![1, 512, 128] inb_S8x512x128_S1x512x128_1_0_0, k0_pay391 (k0_pay388 r h (cols x2 2048))⟩,
      ⟨Rect.unit ![0, 0, 0] ![1, 512, 128] inb_S8x512x128_S1x512x128_0_0_0, k0_pay390 (k0_pay389 r h (cols x2 2048))⟩] := by
  refine piece _ 7 _ rfl _ _ _ ?_ <| piece _ 6 _ rfl _ _ _ ?_ <| piece _ 5 _ rfl _ _ _ ?_ <| piece _ 4 _ rfl _ _ _ ?_ <| piece _ 3 _ rfl _ _ _ ?_ <| piece _ 2 _ rfl _ _ _ ?_ <| piece _ 1 _ rfl _ _ _ ?_ <| piece _ 0 _ rfl _ _ _ ?_ trivial
  all_goals
    intro i l
    try unfold k0_pay389
    generalize k0_pay388 r h (cols x2 2048) = Z
    unfold_payloads
    pointwise []
    exact congrArg (fun n => Z (ix2 i n)) (Fin.ext (by show _ = 128 * _ + l.val; simp))

theorem g_pieces (r : FVec Ideal S512x1 .f32) (h : FVec Ideal S512x1024 .bf16) (x2 : Vec Ideal S1024x7168 .bf16) :
    View.PiecesOf (gblock (k0_pay543 r h (cols x2 3072)))
    [⟨Rect.unit ![7, 0, 0] ![1, 512, 128] inb_S8x512x128_S1x512x128_7_0_0,
        k0_pay554 (k0_pay545 (k0_pay543 r h (cols x2 3072)) k0_pay544)⟩,
      ⟨Rect.unit ![6, 0, 0] ![1, 512, 128] inb_S8x512x128_S1x512x128_6_0_0,
        k0_pay553 (k0_pay552 (k0_pay543 r h (cols x2 3072)) k0_pay544)⟩,
      ⟨Rect.unit ![5, 0, 0] ![1, 512, 128] inb_S8x512x128_S1x512x128_5_0_0,
        k0_pay551 (k0_pay543 r h (cols x2 3072)) k0_pay544⟩,
      ⟨Rect.unit ![4, 0, 0] ![1, 512, 128] inb_S8x512x128_S1x512x128_4_0_0,
        k0_pay550 (k0_pay543 r h (cols x2 3072)) k0_pay544⟩,
      ⟨Rect.unit ![3, 0, 0] ![1, 512, 128] inb_S8x512x128_S1x512x128_3_0_0,
        k0_pay549 (k0_pay543 r h (cols x2 3072)) k0_pay544⟩,
      ⟨Rect.unit ![2, 0, 0] ![1, 512, 128] inb_S8x512x128_S1x512x128_2_0_0,
        k0_pay548 (k0_pay543 r h (cols x2 3072)) k0_pay544⟩,
      ⟨Rect.unit ![1, 0, 0] ![1, 512, 128] inb_S8x512x128_S1x512x128_1_0_0,
        k0_pay547 (k0_pay543 r h (cols x2 3072)) k0_pay544⟩,
      ⟨Rect.unit ![0, 0, 0] ![1, 512, 128] inb_S8x512x128_S1x512x128_0_0_0,
        k0_pay546 (k0_pay543 r h (cols x2 3072)) k0_pay544⟩] := by
  refine piece _ 7 _ rfl _ _ _ ?_ <| piece _ 6 _ rfl _ _ _ ?_ <| piece _ 5 _ rfl _ _ _ ?_ <| piece _ 4 _ rfl _ _ _ ?_ <| piece _ 3 _ rfl _ _ _ ?_ <| piece _ 2 _ rfl _ _ _ ?_ <| piece _ 1 _ rfl _ _ _ ?_ <| piece _ 0 _ rfl _ _ _ ?_ trivial
  all_goals
    intro i l
    generalize k0_pay543 r h (cols x2 3072) = Z
    unfold_payloads
    pointwise []
    exact congrArg (fun n => gate (Z (ix2 i n))) (Fin.ext (by show _ = 128 * _ + l.val; simp))

end Cert.Kernel3Ideal.In

end
-- ==== Proof.In.BodyA.lean ====
/- What the input projection leaves in its first four result blocks at the first point of a batch element's sweep. -/
module

public import proofs.«01_k».proof.Proof.Gen.Kernel3Ideal.Frame
public import proofs.«01_k».proof.Proof.In.Pieces

@[expose] public section

set_option maxRecDepth 65536

noncomputable section

namespace Cert.Kernel3Ideal.In

open Cert.Kernel3Ideal Cert.Kernel3Ideal.Gen Idealize.ShloMosaic Idealize.ShloMosaic.TcCoe Idealize.SL.Sem

/-- The queries' block. -/
theorem qA (c : Dev nD) (i : grid0.Coords)
    arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19
    harg19 arg20 harg20 arg21 harg21 arg22 harg22 arg23 harg23 arg24 harg24
    hc0 hc1
    (x0 : Vec Ideal S512x1024 .f32) (x1 : Vec Ideal S1x1024 .f32) (x2 : Vec Ideal S1024x7168 .bf16) (x3 : Vec Ideal S1024x128 .bf16) (x4 : Vec Ideal S1x128 .f32) (x5 : Vec Ideal S512x512 .bf16) (x6 : Vec Ideal S1x1024 .f32) (x7 : Vec Ideal S1x1024 .f32) (x8 : Vec Ideal S384x256 .bf16) (x9 : Vec Ideal S8x31x128 .f32) (x10 : Vec Ideal S8x1x128 .f32) (x11 : Vec Ideal S1x1024 .f32) (x12 : Vec Ideal S1x1024 .f32) :
    out0_A_13 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12
      = qblock (k0_pay20 (k0_pay6 x0) (k0_pay7 x0 x1) (cols x2 0)) x6 := by
  have hp : View.PiecesOf (qblock (k0_pay20 (k0_pay6 x0) (k0_pay7 x0 x1) (cols x2 0)) x6)
      (kernelRun0_A (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12).1 := by
    unfold kernelRun0_A
    dsimp only
    sl_unfold_run_names
    simp only [↓read_rows, ↓read_gain, ↓read_cols, ↓read_gains, Memref.IsWhole.read_unread]
    exact q_pieces _ _ x2 x6
  have hc := fun y => cover0_A_13 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 y
  unfold out0_A_13
  rw [View.read_writes_eq_canon _ _ _ hc]
  funext y
  exact View.canon_append_of_piecesOf _ [] _ hp y (hc y)

/-- The keys' block. -/
theorem kA (c : Dev nD) (i : grid0.Coords)
    arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19
    harg19 arg20 harg20 arg21 harg21 arg22 harg22 arg23 harg23 arg24 harg24
    hc0 hc1
    (x0 : Vec Ideal S512x1024 .f32) (x1 : Vec Ideal S1x1024 .f32) (x2 : Vec Ideal S1024x7168 .bf16) (x3 : Vec Ideal S1024x128 .bf16) (x4 : Vec Ideal S1x128 .f32) (x5 : Vec Ideal S512x512 .bf16) (x6 : Vec Ideal S1x1024 .f32) (x7 : Vec Ideal S1x1024 .f32) (x8 : Vec Ideal S384x256 .bf16) (x9 : Vec Ideal S8x31x128 .f32) (x10 : Vec Ideal S8x1x128 .f32) (x11 : Vec Ideal S1x1024 .f32) (x12 : Vec Ideal S1x1024 .f32) :
    out0_A_14 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12
      = kblock (k0_pay202 (k0_pay6 x0) (k0_pay7 x0 x1) (cols x2 1024)) x7 := by
  have hp : View.PiecesOf (kblock (k0_pay202 (k0_pay6 x0) (k0_pay7 x0 x1) (cols x2 1024)) x7)
      (kernelRun0_A (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12).2.1 := by
    unfold kernelRun0_A
    dsimp only
    sl_unfold_run_names
    simp only [↓read_rows, ↓read_gain, ↓read_cols, ↓read_gains, Memref.IsWhole.read_unread]
    exact k_pieces _ _ x2 x7
  have hc := fun y => cover0_A_14 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 y
  unfold out0_A_14
  rw [View.read_writes_eq_canon _ _ _ hc]
  funext y
  exact View.canon_append_of_piecesOf _ [] _ hp y (hc y)

/-- The values' block. -/
theorem vA (c : Dev nD) (i : grid0.Coords)
    arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19
    harg19 arg20 harg20 arg21 harg21 arg22 harg22 arg23 harg23 arg24 harg24
    hc0 hc1
    (x0 : Vec Ideal S512x1024 .f32) (x1 : Vec Ideal S1x1024 .f32) (x2 : Vec Ideal S1024x7168 .bf16) (x3 : Vec Ideal S1024x128 .bf16) (x4 : Vec Ideal S1x128 .f32) (x5 : Vec Ideal S512x512 .bf16) (x6 : Vec Ideal S1x1024 .f32) (x7 : Vec Ideal S1x1024 .f32) (x8 : Vec Ideal S384x256 .bf16) (x9 : Vec Ideal S8x31x128 .f32) (x10 : Vec Ideal S8x1x128 .f32) (x11 : Vec Ideal S1x1024 .f32) (x12 : Vec Ideal S1x1024 .f32) :
    out0_A_15 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12
      = vblock (k0_pay388 (k0_pay6 x0) (k0_pay7 x0 x1) (cols x2 2048)) := by
  have hp : View.PiecesOf (vblock (k0_pay388 (k0_pay6 x0) (k0_pay7 x0 x1) (cols x2 2048)))
      (kernelRun0_A (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12).2.2.1 := by
    unfold kernelRun0_A
    dsimp only
    sl_unfold_run_names
    simp only [↓read_rows, ↓read_gain, ↓read_cols, ↓read_gains, Memref.IsWhole.read_unread]
    exact v_pieces _ _ x2
  have hc := fun y => cover0_A_15 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 y
  unfold out0_A_15
  rw [View.read_writes_eq_canon _ _ _ hc]
  funext y
  exact View.canon_append_of_piecesOf _ [] _ hp y (hc y)

/-- The gates' block. -/
theorem gA (c : Dev nD) (i : grid0.Coords)
    arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19
    harg19 arg20 harg20 arg21 harg21 arg22 harg22 arg23 harg23 arg24 harg24
    hc0 hc1
    (x0 : Vec Ideal S512x1024 .f32) (x1 : Vec Ideal S1x1024 .f32) (x2 : Vec Ideal S1024x7168 .bf16) (x3 : Vec Ideal S1024x128 .bf16) (x4 : Vec Ideal S1x128 .f32) (x5 : Vec Ideal S512x512 .bf16) (x6 : Vec Ideal S1x1024 .f32) (x7 : Vec Ideal S1x1024 .f32) (x8 : Vec Ideal S384x256 .bf16) (x9 : Vec Ideal S8x31x128 .f32) (x10 : Vec Ideal S8x1x128 .f32) (x11 : Vec Ideal S1x1024 .f32) (x12 : Vec Ideal S1x1024 .f32) :
    out0_A_16 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12
      = gblock (k0_pay543 (k0_pay6 x0) (k0_pay7 x0 x1) (cols x2 3072)) := by
  have hp : View.PiecesOf (gblock (k0_pay543 (k0_pay6 x0) (k0_pay7 x0 x1) (cols x2 3072)))
      (kernelRun0_A (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12).2.2.2.1 := by
    unfold kernelRun0_A
    dsimp only
    sl_unfold_run_names
    simp only [↓read_rows, ↓read_gain, ↓read_cols, ↓read_gains, Memref.IsWhole.read_unread]
    exact g_pieces _ _ x2
  have hc := fun y => cover0_A_16 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 y
  unfold out0_A_16
  rw [View.read_writes_eq_canon _ _ _ hc]
  funext y
  exact View.canon_append_of_piecesOf _ [] _ hp y (hc y)

end Cert.Kernel3Ideal.In

end
-- ==== Proof.In.BodyB.lean ====
/- What the input projection leaves in its first four result blocks at a later point of a batch element's sweep. -/
module

public import proofs.«01_k».proof.Proof.Gen.Kernel3Ideal.Frame
public import proofs.«01_k».proof.Proof.In.Pieces

@[expose] public section

set_option maxRecDepth 65536

noncomputable section

namespace Cert.Kernel3Ideal.In

open Cert.Kernel3Ideal Cert.Kernel3Ideal.Gen Idealize.ShloMosaic Idealize.ShloMosaic.TcCoe Idealize.SL.Sem

/-- The queries' block. -/
theorem qB (c : Dev nD) (i : grid0.Coords)
    arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19
    harg19 arg20 harg20 arg21 harg21 arg22 harg22 arg23 harg23 arg24 harg24
    hc0 hc1
    (x0 : Vec Ideal S512x1024 .f32) (x1 : Vec Ideal S1x1024 .f32) (x2 : Vec Ideal S1024x7168 .bf16) (x3 : Vec Ideal S1024x128 .bf16) (x4 : Vec Ideal S1x128 .f32) (x5 : Vec Ideal S512x512 .bf16) (x6 : Vec Ideal S1x1024 .f32) (x7 : Vec Ideal S1x1024 .f32) (x8 : Vec Ideal S384x256 .bf16) (x9 : Vec Ideal S8x31x128 .f32) (x10 : Vec Ideal S8x1x128 .f32) (x11 : Vec Ideal S1x1024 .f32) (x12 : Vec Ideal S1x1024 .f32) xs0 xs1 :
    out0_B_13 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 xs0 xs1
      = qblock (k0_pay20 (k0_pay6 x0) (k0_pay7 x0 x1) (cols x2 0)) x6 := by
  have hp : View.PiecesOf (qblock (k0_pay20 (k0_pay6 x0) (k0_pay7 x0 x1) (cols x2 0)) x6)
      (kernelRun0_B (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 xs0 xs1).1 := by
    unfold kernelRun0_B
    dsimp only
    sl_unfold_run_names
    simp only [↓read_rows, ↓read_gain, ↓read_cols, ↓read_gains, Memref.IsWhole.read_unread]
    exact q_pieces _ _ x2 x6
  have hc := fun y => cover0_B_13 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 xs0 xs1 y
  unfold out0_B_13
  rw [View.read_writes_eq_canon _ _ _ hc]
  funext y
  exact View.canon_append_of_piecesOf _ [] _ hp y (hc y)

/-- The keys' block. -/
theorem kB (c : Dev nD) (i : grid0.Coords)
    arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19
    harg19 arg20 harg20 arg21 harg21 arg22 harg22 arg23 harg23 arg24 harg24
    hc0 hc1
    (x0 : Vec Ideal S512x1024 .f32) (x1 : Vec Ideal S1x1024 .f32) (x2 : Vec Ideal S1024x7168 .bf16) (x3 : Vec Ideal S1024x128 .bf16) (x4 : Vec Ideal S1x128 .f32) (x5 : Vec Ideal S512x512 .bf16) (x6 : Vec Ideal S1x1024 .f32) (x7 : Vec Ideal S1x1024 .f32) (x8 : Vec Ideal S384x256 .bf16) (x9 : Vec Ideal S8x31x128 .f32) (x10 : Vec Ideal S8x1x128 .f32) (x11 : Vec Ideal S1x1024 .f32) (x12 : Vec Ideal S1x1024 .f32) xs0 xs1 :
    out0_B_14 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 xs0 xs1
      = kblock (k0_pay202 (k0_pay6 x0) (k0_pay7 x0 x1) (cols x2 1024)) x7 := by
  have hp : View.PiecesOf (kblock (k0_pay202 (k0_pay6 x0) (k0_pay7 x0 x1) (cols x2 1024)) x7)
      (kernelRun0_B (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 xs0 xs1).2.1 := by
    unfold kernelRun0_B
    dsimp only
    sl_unfold_run_names
    simp only [↓read_rows, ↓read_gain, ↓read_cols, ↓read_gains, Memref.IsWhole.read_unread]
    exact k_pieces _ _ x2 x7
  have hc := fun y => cover0_B_14 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 xs0 xs1 y
  unfold out0_B_14
  rw [View.read_writes_eq_canon _ _ _ hc]
  funext y
  exact View.canon_append_of_piecesOf _ [] _ hp y (hc y)

/-- The values' block. -/
theorem vB (c : Dev nD) (i : grid0.Coords)
    arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19
    harg19 arg20 harg20 arg21 harg21 arg22 harg22 arg23 harg23 arg24 harg24
    hc0 hc1
    (x0 : Vec Ideal S512x1024 .f32) (x1 : Vec Ideal S1x1024 .f32) (x2 : Vec Ideal S1024x7168 .bf16) (x3 : Vec Ideal S1024x128 .bf16) (x4 : Vec Ideal S1x128 .f32) (x5 : Vec Ideal S512x512 .bf16) (x6 : Vec Ideal S1x1024 .f32) (x7 : Vec Ideal S1x1024 .f32) (x8 : Vec Ideal S384x256 .bf16) (x9 : Vec Ideal S8x31x128 .f32) (x10 : Vec Ideal S8x1x128 .f32) (x11 : Vec Ideal S1x1024 .f32) (x12 : Vec Ideal S1x1024 .f32) xs0 xs1 :
    out0_B_15 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 xs0 xs1
      = vblock (k0_pay388 (k0_pay6 x0) (k0_pay7 x0 x1) (cols x2 2048)) := by
  have hp : View.PiecesOf (vblock (k0_pay388 (k0_pay6 x0) (k0_pay7 x0 x1) (cols x2 2048)))
      (kernelRun0_B (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 xs0 xs1).2.2.1 := by
    unfold kernelRun0_B
    dsimp only
    sl_unfold_run_names
    simp only [↓read_rows, ↓read_gain, ↓read_cols, ↓read_gains, Memref.IsWhole.read_unread]
    exact v_pieces _ _ x2
  have hc := fun y => cover0_B_15 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 xs0 xs1 y
  unfold out0_B_15
  rw [View.read_writes_eq_canon _ _ _ hc]
  funext y
  exact View.canon_append_of_piecesOf _ [] _ hp y (hc y)

/-- The gates' block. -/
theorem gB (c : Dev nD) (i : grid0.Coords)
    arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19
    harg19 arg20 harg20 arg21 harg21 arg22 harg22 arg23 harg23 arg24 harg24
    hc0 hc1
    (x0 : Vec Ideal S512x1024 .f32) (x1 : Vec Ideal S1x1024 .f32) (x2 : Vec Ideal S1024x7168 .bf16) (x3 : Vec Ideal S1024x128 .bf16) (x4 : Vec Ideal S1x128 .f32) (x5 : Vec Ideal S512x512 .bf16) (x6 : Vec Ideal S1x1024 .f32) (x7 : Vec Ideal S1x1024 .f32) (x8 : Vec Ideal S384x256 .bf16) (x9 : Vec Ideal S8x31x128 .f32) (x10 : Vec Ideal S8x1x128 .f32) (x11 : Vec Ideal S1x1024 .f32) (x12 : Vec Ideal S1x1024 .f32) xs0 xs1 :
    out0_B_16 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 xs0 xs1
      = gblock (k0_pay543 (k0_pay6 x0) (k0_pay7 x0 x1) (cols x2 3072)) := by
  have hp : View.PiecesOf (gblock (k0_pay543 (k0_pay6 x0) (k0_pay7 x0 x1) (cols x2 3072)))
      (kernelRun0_B (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 xs0 xs1).2.2.2.1 := by
    unfold kernelRun0_B
    dsimp only
    sl_unfold_run_names
    simp only [↓read_rows, ↓read_gain, ↓read_cols, ↓read_gains, Memref.IsWhole.read_unread]
    exact g_pieces _ _ x2
  have hc := fun y => cover0_B_16 (F := Ideal) c i
        arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24
        hc0 hc1 x0 x1 x2 x3 x4 x5 x6 x7 x8 x9 x10 x11 x12 xs0 xs1 y
  unfold out0_B_16
  rw [View.read_writes_eq_canon _ _ _ hc]
  funext y
  exact View.canon_append_of_piecesOf _ [] _ hp y (hc y)

end Cert.Kernel3Ideal.In

end
-- ==== Proof.In.Outs.lean ====
/- What a grid point of the input projection leaves in its first four result blocks, whichever of its two cases it is. -/
module

public import proofs.«01_k».proof.Proof.In.BodyA
public import proofs.«01_k».proof.Proof.In.BodyB

@[expose] public section

set_option maxRecDepth 65536

noncomputable section

namespace Cert.Kernel3Ideal.In

open Cert.Kernel3Ideal Cert.Kernel3Ideal.Gen Idealize.ShloMosaic Idealize.ShloMosaic.TcCoe Idealize.SL.Sem

variable (m : (ℓ : Loc nD τ sig) → Buf (Elt Ideal) ℓ)

/-- The section of the projection that begins at column `o`, at grid point `t`. -/
def proj (c : Dev nD) (t : Fin cfg0.N) (o : ℕ) : FVec Ideal S512x1024 .f32 :=
  k0_pay20 (k0_pay6 (F := Ideal) (iblk m c 0 t)) (k0_pay7 (F := Ideal) (iblk m c 0 t) (iblk m c 1 t)) (cols (iblk m c 2 t) o)

/-- The queries' block. -/
theorem q_left (c : Dev nD) (t : Fin cfg0.N) : (outsAt0 m c t.val t.isLt).1 = qblock (proj m c t 0) (iblk m c 6 t) := by
  by_cases h0 : t.val % 4 = 0
  · rw [outsAt0_A m c t h0 (not_not.mpr h0)]
    dsimp only
    apply qA
  · rw [outsAt0_B m c t h0 h0]
    dsimp only
    apply qB

/-- The keys' block. -/
theorem k_left (c : Dev nD) (t : Fin cfg0.N) : (outsAt0 m c t.val t.isLt).2.1 = kblock (proj m c t 1024) (iblk m c 7 t) := by
  by_cases h0 : t.val % 4 = 0
  · rw [outsAt0_A m c t h0 (not_not.mpr h0)]
    dsimp only
    apply kA
  · rw [outsAt0_B m c t h0 h0]
    dsimp only
    apply kB

/-- The values' block. -/
theorem v_left (c : Dev nD) (t : Fin cfg0.N) : (outsAt0 m c t.val t.isLt).2.2.1 = vblock (proj m c t 2048) := by
  by_cases h0 : t.val % 4 = 0
  · rw [outsAt0_A m c t h0 (not_not.mpr h0)]
    dsimp only
    apply vA
  · rw [outsAt0_B m c t h0 h0]
    dsimp only
    apply vB

/-- The gates' block. -/
theorem g_left (c : Dev nD) (t : Fin cfg0.N) : (outsAt0 m c t.val t.isLt).2.2.2.1 = gblock (proj m c t 3072) := by
  by_cases h0 : t.val % 4 = 0
  · rw [outsAt0_A m c t h0 (not_not.mpr h0)]
    dsimp only
    apply gA
  · rw [outsAt0_B m c t h0 h0]
    dsimp only
    apply gB

end Cert.Kernel3Ideal.In

end
-- ==== Proof.In.Scale.lean ====
/- The two rearrangements of the input projection: the norm's factor before or after the product, and the gate by the
   hyperbolic tangent or by the exponential. -/
module

public import proofs.«01_k».proof.Proof.In.Model
public import proofs.«01_k».proof.Proof.Att.Joint

@[expose] public section

set_option maxRecDepth 65536

noncomputable section

namespace Cert.Kernel3Ideal.In

open Cert.KernelIdeal.Att Idealize.ShloMosaic

/-- The pattern of 1024. -/
theorem ofBits_1024 : Ideal.ofBits FTy.f32 1149239296#32 = ((1024 : ℝ) : EReal) := by
  simp [Ideal.ofBits, Ideal.ieee]
  rw [← EReal.coe_mul]
  norm_num

/-- The pattern of one half. -/
theorem ofBits_half : Ideal.ofBits FTy.f32 1056964608#32 = ((1 / 2 : ℝ) : EReal) := by
  simp [Ideal.ofBits, Ideal.ieee]
  rw [← EReal.coe_mul]
  norm_num

/-- The pattern the norm adds is a positive real. -/
theorem ofBits_eps : ∃ e : ℝ, 0 < e ∧ Ideal.ofBits FTy.f32 897988541#32 = (e : EReal) := by
  simp [Ideal.ofBits, Ideal.ieee]
  rw [← EReal.coe_mul]
  exact ⟨_, by positivity, rfl⟩

/-- A number that is not real has the square `⊤`. -/
theorem sq_top (x : EReal) (h : ¬ IsReal x) : x * x = ⊤ := by
  induction x using EReal.rec with
  | bot => rfl
  | top => rfl
  | coe r => exact absurd ⟨r, rfl⟩ h

theorem sq_nonneg (x : EReal) : 0 ≤ x * x := by
  by_cases h : IsReal x
  · obtain ⟨r, rfl⟩ := h
    rw [← EReal.coe_mul]
    exact_mod_cast mul_self_nonneg r
  · rw [sq_top x h]
    exact le_top

/-- The norm's factor of a row is a nonnegative real, and it is zero unless the row is real. -/
theorem factor_real (f : Fin 1024 → EReal) : ∃ c : ℝ, 0 ≤ c ∧ ((∀ x, IsReal (f x)) ∨ c = 0) ∧
    Ideal.rsqrt (Ideal.div (∑ x, f x * f x) (Ideal.ofBits FTy.f32 1149239296#32) + Ideal.ofBits FTy.f32 897988541#32) = (c : EReal) := by
  obtain ⟨e, he, hE⟩ := ofBits_eps
  rw [ofBits_1024, hE, Ideal.div_coe (by norm_num)]
  by_cases hf : ∀ x, IsReal (f x)
  · have hf' := hf
    choose g hg using hf
    have hs : (∑ x, f x * f x) = ((∑ x, g x * g x : ℝ) : EReal) := by
      rw [← sum_real]
      exact Finset.sum_congr rfl fun x _ => by rw [hg x, EReal.coe_mul]
    have h0 : 0 ≤ ∑ x, g x * g x := Finset.sum_nonneg fun x _ => mul_self_nonneg _
    rw [hs, ← EReal.coe_mul, ← EReal.coe_add, Ideal.rsqrt_coe]
    have hp : 0 < (∑ x, g x * g x) * (1 / 1024) + e := by positivity
    rw [if_neg (not_lt.mpr hp.le), if_neg hp.ne']
    exact ⟨_, by positivity, Or.inl hf', rfl⟩
  · obtain ⟨x, hx⟩ := not_forall.mp hf
    have hs : (∑ x, f x * f x) = ⊤ := by
      refine top_le_iff.mp ?_
      rw [← sq_top _ hx]
      exact Finset.single_le_sum (f := fun x => f x * f x) (fun y _ => sq_nonneg (f y)) (Finset.mem_univ x)
    refine ⟨0, le_rfl, Or.inr rfl, ?_⟩
    rw [hs, EReal.top_mul_coe_of_pos (by norm_num), EReal.top_add_coe]
    rfl

/-- The norm's factor after the product, and inside it. -/
theorem factor_inside (c : ℝ) (hc : 0 ≤ c) (f g w : Fin 1024 → EReal) :
    (c : EReal) * ∑ x, f x * g x * w x = ∑ x, f x * (c : EReal) * g x * w x := by
  rw [mul_sum_real _ c hc]
  refine Finset.sum_congr rfl fun x _ => ?_
  rw [mul_comm (f x) (c : EReal), mul_assoc, mul_assoc, mul_assoc]

/-- Half a real plus half of it times the hyperbolic tangent of the half is the real times its logistic. -/
theorem gate_eq (t : EReal) (ht : IsReal t) : gate t = t * Ideal.div 1 (1 + Ideal.exp (-t)) := by
  obtain ⟨a, rfl⟩ := ht
  unfold gate
  have hp : 0 < 1 + Real.exp (-a) := by positivity
  have h1 : (1 : EReal) + Ideal.exp (-(a : EReal)) = ((1 + Real.exp (-a) : ℝ) : EReal) := by
    rw [← EReal.coe_neg, Ideal.exp_coe, EReal.coe_add, EReal.coe_one]
  rw [h1, ofBits_half, Ideal.div_coe hp.ne', one_mul, ← EReal.coe_mul, Ideal.tanh_coe, ← EReal.coe_mul, ← EReal.coe_mul,
    ← EReal.coe_add]
  refine congrArg _ ?_
  have hz : Real.exp (-a) = Real.exp (-(1 / 2 * a)) * Real.exp (-(1 / 2 * a)) := by
    rw [← Real.exp_add]; congr 1; ring
  have hw : Real.exp (1 / 2 * a) * Real.exp (-(1 / 2 * a)) = 1 := by
    rw [← Real.exp_add]; simp
  have h2 : 0 < Real.exp (1 / 2 * a) := Real.exp_pos _
  have h3 : 0 < Real.exp (-(1 / 2 * a)) := Real.exp_pos _
  rw [Real.tanh_eq_sinh_div_cosh, Real.sinh_eq, Real.cosh_eq, hz]
  generalize Real.exp (1 / 2 * a) = u at *
  generalize Real.exp (-(1 / 2 * a)) = v at *
  have huv : u + v ≠ 0 := by positivity
  have hvv : 1 + v * v ≠ 0 := by positivity
  have e1 : (u - v) / 2 / ((u + v) / 2) = (u - v) / (u + v) := by field_simp
  rw [e1]
  field_simp
  have e2 : u * (1 + v * v) = u + v := by
    rw [mul_add, mul_one, ← mul_assoc, hw, one_mul]
  linear_combination (2 * a) * e2

end Cert.Kernel3Ideal.In

end
-- ==== Proof.In.Ref.lean ====
/- The input projection's reference, element by element. -/
module

public import proofs.«01_k».proof.Proof.Gen.Reference3Ideal.Read
public import Idealize.ShloMosaic.Lib.Pointwise

@[expose] public section

set_option maxRecDepth 65536

noncomputable section

namespace Cert.Reference3Ideal.In

open Cert.Reference3Ideal Cert.Reference3Ideal.Read Idealize.ShloMosaic Idealize.ShloMosaic.TcCoe Idealize.SL.Sem

/-- The projection's column that lane `l` of slab `p` of the section beginning at `o` holds, row `r` of the whole. -/
def col (x0 : (⟨S16x2048x1024, .f32⟩ : BufTy).Contents (Elt Ideal)) (x1 : (⟨S1x1024, .f32⟩ : BufTy).Contents (Elt Ideal))
    (x2 : (⟨S1x1024x7184, .f32⟩ : BufTy).Contents (Elt Ideal)) (r : Fin 32768) (n : ℕ) : EReal :=
  val_main_v15 x0 x1 x2 (ix3 (⟨r.val / 2048, by omega⟩ : Fin 16) (⟨r.val % 2048, by omega⟩ : Fin 2048) (Fin.ofNat 7184 n : Fin 7184))

variable (x0 : (⟨S16x2048x1024, .f32⟩ : BufTy).Contents (Elt Ideal)) (x1 : (⟨S1x1024, .f32⟩ : BufTy).Contents (Elt Ideal))
  (x2 : (⟨S1x1024x7184, .f32⟩ : BufTy).Contents (Elt Ideal))

theorem v15_at (b : Fin 16) (s : Fin 2048) (n : Fin 7184) :
    val_main_v15 x0 x1 x2 (ix3 b s n)
      = ∑ x : Fin 1024, x0 (ix3 b s x) * Ideal.rsqrt (Ideal.div (∑ x : Fin 1024, x0 (ix3 b s x) * x0 (ix3 b s x)) (Ideal.ofBits FTy.f32 1149239296#32)
          + Ideal.ofBits FTy.f32 897988541#32) * x1 (ix2 (0 : Fin 1) x) * x2 (ix3 (0 : Fin 1) x n) := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]

theorem keys_at (x5 : (⟨S1x16x64, .f32⟩ : BufTy).Contents (Elt Ideal)) (p : Fin 8) (r : Fin 32768) (l : Fin 128) :
    val_main_v60 x0 x1 x2 x5 (ix3 p r l)
      = col x0 x1 x2 r (1024 + (128 * p.val + l.val)) * Ideal.rsqrt (Ideal.div
          (∑ x : Fin 64, col x0 x1 x2 r (1024 + (128 * p.val + (64 * (l.val / 64) + x.val)))
            * col x0 x1 x2 r (1024 + (128 * p.val + (64 * (l.val / 64) + x.val)))) (Ideal.ofBits FTy.f32 1115684864#32)
          + Ideal.ofBits FTy.f32 897988541#32)
        * x5 (ix3 (0 : Fin 1) (⟨2 * p.val + l.val / 64, by omega⟩ : Fin 16) (⟨l.val % 64, by omega⟩ : Fin 64)) := by
  pointwise [val_main_v60, val_main_v59, val_main_v58, val_main_v57, val_main_v47, val_main_v46, val_main_v45, val_main_v44,
    val_main_v43, val_main_v42, val_main_v41, val_main_v40, val_main_v39, val_main_v38, val_main_v37, val_main_v36,
    val_main_v35, val_main_v34, val_main_v33, val_main_v32, val_main_cst_5, val_main_cst_6, val_main_cst_7]
  unfold col
  refine congrArg₂ _ (congrArg₂ _ (congrArg _ ?_) (congrArg _ (congrArg₂ _ (congrArg₂ _ (Finset.sum_congr rfl fun x _ => congrArg₂ _ (congrArg _ ?_) (congrArg _ ?_)) rfl) rfl))) (congrArg _ ?_)
  all_goals (refine congrArg₂ (ix3 _) ?_ ?_ <;> apply Fin.ext)
  all_goals first | rfl | (simp only [Fin.val_ofNat]; omega)

theorem queries_at (x4 : (⟨S1x16x64, .f32⟩ : BufTy).Contents (Elt Ideal)) (p : Fin 8) (r : Fin 32768) (l : Fin 128) :
    val_main_v56 x0 x1 x2 x4 (ix3 p r l)
      = col x0 x1 x2 r (0 + (128 * p.val + l.val)) * Ideal.rsqrt (Ideal.div
          (∑ x : Fin 64, col x0 x1 x2 r (0 + (128 * p.val + (64 * (l.val / 64) + x.val)))
            * col x0 x1 x2 r (0 + (128 * p.val + (64 * (l.val / 64) + x.val)))) (Ideal.ofBits FTy.f32 1115684864#32)
          + Ideal.ofBits FTy.f32 897988541#32)
        * x4 (ix3 (0 : Fin 1) (⟨2 * p.val + l.val / 64, by omega⟩ : Fin 16) (⟨l.val % 64, by omega⟩ : Fin 64))
        * Ideal.ofBits FTy.f32 1043900987#32 := by
  pointwise [val_main_v56, val_main_v55, val_main_v54, val_main_v53, val_main_v52, val_main_v51, val_main_cst_8, val_main_v31,
    val_main_v30, val_main_v29, val_main_v28, val_main_v27, val_main_v26, val_main_v25, val_main_v24, val_main_v23,
    val_main_v22, val_main_v21, val_main_v20, val_main_v19, val_main_v18, val_main_v17, val_main_v16, val_main_cst_2,
    val_main_cst_3, val_main_cst_4]
  unfold col
  refine congrArg₂ _ (congrArg₂ _ (congrArg₂ _ (congrArg _ ?_) (congrArg _ (congrArg₂ _ (congrArg₂ _ (Finset.sum_congr rfl fun x _ => congrArg₂ _ (congrArg _ ?_) (congrArg _ ?_)) rfl) rfl))) (congrArg _ ?_)) rfl
  all_goals (refine congrArg₂ (ix3 _) ?_ ?_ <;> apply Fin.ext)
  all_goals first | rfl | (simp only [Fin.val_ofNat]; omega)

theorem values_at (p : Fin 8) (r : Fin 32768) (l : Fin 128) :
    val_main_v63 x0 x1 x2 (ix3 p r l) = col x0 x1 x2 r (2048 + (128 * p.val + l.val)) := by
  pointwise [val_main_v63, val_main_v62, val_main_v61, val_main_v48]
  unfold col
  refine congrArg _ (congrArg (ix3 _ _) (Fin.ext ?_))
  simp only [Fin.val_ofNat]; omega

theorem gates_at (p : Fin 8) (r : Fin 32768) (l : Fin 128) :
    val_main_v66 x0 x1 x2 (ix3 p r l) = col x0 x1 x2 r (3088 + (128 * p.val + l.val))
      * Ideal.div 1 (1 + Ideal.exp (-(col x0 x1 x2 r (3088 + (128 * p.val + l.val))))) := by
  have e : val_main_v66 x0 x1 x2 (ix3 p r l)
    = (fun t : EReal => t * Ideal.div 1 (1 + Ideal.exp (-t))) (val_main_v15 x0 x1 x2 (ix3 (⟨r.val / 2048, by omega⟩ : Fin 16) (⟨r.val % 2048, by omega⟩ : Fin 2048) (⟨3088 + (p.val * 128 + l.val), by omega⟩ : Fin 7184))) := by
    pointwise [val_main_v66, val_main_v65, val_main_v64, val_main_v50, val_main_call0_v5, val_main_call0_v4, val_main_call0_v3,
      val_main_call0_v2, val_main_call0_v1, val_main_call0_v0, val_main_call0_cst, val_main_call0_cst_0, val_main_v49]
  rw [e]
  unfold col
  have e2 : (⟨3088 + (p.val * 128 + l.val), by omega⟩ : Fin 7184) = Fin.ofNat 7184 (3088 + (128 * p.val + l.val)) := by
    apply Fin.ext; simp only [Fin.val_ofNat]; omega
  rw [e2]

end Cert.Reference3Ideal.In

end
-- ==== Proof.In.Match.lean ====
/- The blocks of the input projection's kernel are the reference's, from what the blocks it reads hold. -/
module

public import proofs.«01_k».proof.Proof.In.Scale
public import proofs.«01_k».proof.Proof.In.Ref

@[expose] public section

set_option maxRecDepth 65536

noncomputable section

namespace Cert.Kernel3Ideal.In

open Cert.Kernel3Ideal Cert.Kernel3Ideal.Gen Cert.Reference3Ideal.Read Cert.Reference3Ideal.In Cert.KernelIdeal.Att Idealize.ShloMosaic Idealize.ShloMosaic.TcCoe Idealize.SL.Sem

theorem pay6_at (x0 : Vec Ideal S512x1024 .f32) (r : Fin 512) : k0_pay6 (F := Ideal) x0 (ix2 r (0 : Fin 1))
    = Ideal.rsqrt (Ideal.div (∑ x : Fin 1024, x0 (ix2 r x) * x0 (ix2 r x)) (Ideal.ofBits FTy.f32 1149239296#32)
        + Ideal.ofBits FTy.f32 897988541#32) := by
  unfold_payloads
  pointwise []

theorem pay7_at (x0 : Vec Ideal S512x1024 .f32) (x1 : Vec Ideal S1x1024 .f32) (r : Fin 512) (n : Fin 1024) :
    k0_pay7 (F := Ideal) x0 x1 (ix2 r n) = x0 (ix2 r n) * x1 (ix2 (0 : Fin 1) n) := by
  unfold_payloads
  pointwise []

theorem pay20_at (a : FVec Ideal S512x1 .f32) (h : FVec Ideal S512x1024 .bf16) (w : Vec Ideal S1024x1024 .bf16) (r : Fin 512) (n : Fin 1024) :
    k0_pay20 a h w (ix2 r n) = a (ix2 r (0 : Fin 1)) * ∑ x : Fin 1024, h (ix2 r x) * w (ix2 x n) := by
  unfold_payloads
  pointwise []

variable (A0 : (⟨Cert.Reference3Ideal.S16x2048x1024, .f32⟩ : BufTy).Contents (Elt Ideal))
  (A1 : (⟨Cert.Reference3Ideal.S1x1024, .f32⟩ : BufTy).Contents (Elt Ideal))
  (A2 : (⟨Cert.Reference3Ideal.S1x1024x7184, .f32⟩ : BufTy).Contents (Elt Ideal))

/-- A section of the kernel's projection is the reference's columns. -/
theorem proj_eq (x0 : Vec Ideal S512x1024 .f32) (x1 : Vec Ideal S1x1024 .f32) (x2 : Vec Ideal S1024x7168 .bf16)
    (R : Fin 512 → Fin 32768) (o o' : ℕ)
    (hx : ∀ r x, x0 (ix2 r x) = A0 (ix3 (⟨(R r).val / 2048, by omega⟩ : Fin 16) (⟨(R r).val % 2048, by omega⟩ : Fin 2048) x))
    (hg : ∀ x, x1 (ix2 (0 : Fin 1) x) = A1 (ix2 (0 : Fin 1) x))
    (hw : ∀ (k n : Fin 1024), cols x2 o (ix2 k n) = A2 (ix3 (0 : Fin 1) k (Fin.ofNat 7184 (o' + n.val) : Fin 7184)))
    (r : Fin 512) (n : Fin 1024) :
    k0_pay20 (k0_pay6 (F := Ideal) x0) (k0_pay7 (F := Ideal) x0 x1) (cols x2 o) (ix2 r n) = col A0 A1 A2 (R r) (o' + n.val) := by
  rw [pay20_at, pay6_at]
  simp only [pay7_at, hx, hg, hw]
  unfold col
  rw [v15_at]
  obtain ⟨c, hc, _, e⟩ := factor_real (fun x => A0 (ix3 (⟨(R r).val / 2048, by omega⟩ : Fin 16) (⟨(R r).val % 2048, by omega⟩ : Fin 2048) x))
  rw [e]
  exact factor_inside c hc _ _ _

/-- A column of the projection is real where the norm's gains and the column's weights are. -/
theorem col_real (r : Fin 32768) (n : ℕ) (h1 : ∀ i, IsReal (A1 i))
    (h2 : ∀ k : Fin 1024, IsReal (A2 (ix3 (0 : Fin 1) k (Fin.ofNat 7184 n : Fin 7184)))) :
    IsReal (col A0 A1 A2 r n) := by
  unfold col
  rw [v15_at]
  obtain ⟨c, hc, h, e⟩ := factor_real (fun x => A0 (ix3 (⟨r.val / 2048, by omega⟩ : Fin 16) (⟨r.val % 2048, by omega⟩ : Fin 2048) x))
  rw [e]
  rcases h with h0 | rfl
  · exact IsReal.sum _ _ fun x => (((h0 x).mul ⟨c, rfl⟩).mul (h1 _)).mul (h2 _)
  · refine IsReal.sum _ _ fun x => ?_
    rw [EReal.coe_zero, mul_zero, zero_mul, zero_mul]
    exact ⟨0, EReal.coe_zero.symm⟩

variable (Z : FVec Ideal S512x1024 .f32) (R : Fin 512 → Fin 32768) (p : Fin 8) (r : Fin 512) (l : Fin 128)

/-- The place of a lane among the sixteen heads' gains. -/
theorem gain_place (g : Vec Ideal S1x1024 .f32) (A : (⟨Cert.Reference3Ideal.S1x16x64, .f32⟩ : BufTy).Contents (Elt Ideal))
    (hg : ∀ x : Fin 1024, g (ix2 (0 : Fin 1) x) = A (ix3 (0 : Fin 1) (⟨x.val / 64, by omega⟩ : Fin 16) (⟨x.val % 64, by omega⟩ : Fin 64))) :
    g (ix2 (0 : Fin 1) (lane p l))
      = A (ix3 (0 : Fin 1) (⟨2 * p.val + l.val / 64, by omega⟩ : Fin 16) (⟨l.val % 64, by omega⟩ : Fin 64)) := by
  rw [hg]
  refine congrArg A (congrArg₂ (ix3 _) (Fin.ext ?_) (Fin.ext ?_))
  · show (128 * p.val + l.val) / 64 = 2 * p.val + l.val / 64
    omega
  · show (128 * p.val + l.val) % 64 = l.val % 64
    omega

theorem keys_eq (hZ : ∀ r n, Z (ix2 r n) = col A0 A1 A2 (R r) (1024 + n.val)) (g : Vec Ideal S1x1024 .f32)
    (A : (⟨Cert.Reference3Ideal.S1x16x64, .f32⟩ : BufTy).Contents (Elt Ideal))
    (hg : ∀ x : Fin 1024, g (ix2 (0 : Fin 1) x) = A (ix3 (0 : Fin 1) (⟨x.val / 64, by omega⟩ : Fin 16) (⟨x.val % 64, by omega⟩ : Fin 64))) :
    kblock Z g (ix3 p r l) = val_main_v60 A0 A1 A2 A (ix3 p (R r) l) := by
  rw [keys_at, ← gain_place p l g A hg]
  show normed (fun n => Z (ix2 r n)) p l * g (ix2 (0 : Fin 1) (lane p l)) = _
  unfold normed
  simp only [hZ]
  rfl

theorem queries_eq (hZ : ∀ r n, Z (ix2 r n) = col A0 A1 A2 (R r) (0 + n.val)) (g : Vec Ideal S1x1024 .f32)
    (A : (⟨Cert.Reference3Ideal.S1x16x64, .f32⟩ : BufTy).Contents (Elt Ideal))
    (hg : ∀ x : Fin 1024, g (ix2 (0 : Fin 1) x) = A (ix3 (0 : Fin 1) (⟨x.val / 64, by omega⟩ : Fin 16) (⟨x.val % 64, by omega⟩ : Fin 64))) :
    qblock Z g (ix3 p r l) = val_main_v56 A0 A1 A2 A (ix3 p (R r) l) := by
  rw [queries_at, ← gain_place p l g A hg]
  show normed (fun n => Z (ix2 r n)) p l * g (ix2 (0 : Fin 1) (lane p l)) * _ = _
  unfold normed
  simp only [hZ]
  rfl

theorem values_eq (hZ : ∀ r n, Z (ix2 r n) = col A0 A1 A2 (R r) (2048 + n.val)) :
    vblock Z (ix3 p r l) = val_main_v63 A0 A1 A2 (ix3 p (R r) l) := by
  rw [values_at]
  exact hZ r (lane p l)

theorem gates_eq (hZ : ∀ r n, Z (ix2 r n) = col A0 A1 A2 (R r) (3088 + n.val))
    (h1 : ∀ i, IsReal (A1 i))
    (h2 : ∀ (n k : Fin 1024), IsReal (A2 (ix3 (0 : Fin 1) k (Fin.ofNat 7184 (3088 + n.val) : Fin 7184)))) :
    gblock Z (ix3 p r l) = val_main_v66 A0 A1 A2 (ix3 p (R r) l) := by
  rw [gates_at]
  show gate (Z (ix2 r (lane p l))) = _
  rw [hZ, gate_eq _ (col_real A0 A1 A2 _ _ h1 (h2 (lane p l)))]
  rfl

end Cert.Kernel3Ideal.In

end
-- ==== Proof.In.Blocks.lean ====
/- What the input projection's kernel finds in its other input blocks: the arguments' elements. -/
module

public import proofs.«01_k».proof.Proof.Gen.Kernel3Ideal.Frame.Runs
public import proofs.«01_k».proof.Proof.In.Model
public import Idealize.ShloMosaic.Lib.StableHlo.RunRead

@[expose] public section

set_option maxRecDepth 65536

noncomputable section

namespace Cert.Kernel3Ideal.In

open Cert.Kernel3Ideal Cert.Kernel3Ideal.Gen Idealize.ShloMosaic Idealize.ShloMosaic.TcCoe Idealize.SL.Sem

variable (m : (ℓ : Loc nD τ sig) → Buf (Elt Ideal) ℓ)

/-- Row `r` of the block at grid point `t`, in the whole. -/
def rowOf (t : Fin cfg0.N) (r : Fin 512) : Fin 32768 :=
  ⟨512 * t.val + r.val, by have := t.isLt; have : cfg0.N = 64 := N_0; omega⟩

theorem x_entry (c : Dev nD) : V m c main_v0
    = shapeCast S32768x1024 (m ((c : Thread nD τ).loc main_arg0)) shapeCasts_S16x2048x1024_S32768x1024 := by
  after_reads_simp
  rfl

theorem norm_entry (c : Dev nD) : V m c main_v12
    = shapeCast S1x1024 (shapeCast S1024 (m ((c : Thread nD τ).loc main_arg1)) shapeCasts_S1x1024_S1024) shapeCasts_S1024_S1x1024 := by
  after_reads_simp
  rfl

theorem qgain_entry (c : Dev nD) : V m c main_v14
    = shapeCast S1x1024 (shapeCast S16x64 (m ((c : Thread nD τ).loc main_arg4)) shapeCasts_S1x16x64_S16x64) shapeCasts_S16x64_S1x1024 := by
  after_reads_simp
  rfl

theorem kgain_entry (c : Dev nD) : V m c main_v16
    = shapeCast S1x1024 (shapeCast S16x64 (m ((c : Thread nD τ).loc main_arg5)) shapeCasts_S1x16x64_S16x64) shapeCasts_S16x64_S1x1024 := by
  after_reads_simp
  rfl

/-- A row of the block at grid point `t`, in the whole. -/
theorem x_blk (c : Dev nD) (t : Fin cfg0.N) (r : Fin 512) (x : Fin 1024) : iblk m c 0 t (ix2 r x)
    = V m c main_v0 (ix2 (rowOf t r) x) := by
  have idx : ∀ t : Fin grid0.N, win0_0.index t 0 = t.val ∧ win0_0.index t 1 = 0 := by decide +kernel
  refine congrArg (V m c main_v0) (funext fun a => Fin.ext ?_)
  match a with
  | 0 => show win0_0.index t 0 * 512 + 1 * r.val = 512 * t.val + r.val; rw [(idx t).1]; omega
  | 1 => show win0_0.index t 1 * 1024 + 1 * x.val = x.val; rw [(idx t).2]; omega

/-- The residual's rows as one array. -/
theorem x_flat (w : (⟨S16x2048x1024, .f32⟩ : BufTy).Contents (Elt Ideal)) (r : Fin 32768) (x : Fin 1024) :
    shapeCast S32768x1024 w shapeCasts_S16x2048x1024_S32768x1024 (ix2 r x)
      = w (ix3 (⟨r.val / 2048, by omega⟩ : Fin 16) (⟨r.val % 2048, by omega⟩ : Fin 2048) x) := by
  pointwise []

/-- The rows of the block at grid point `t`. -/
theorem x_at (c : Dev nD) (t : Fin cfg0.N) (r : Fin 512) (x : Fin 1024) : iblk m c 0 t (ix2 r x)
    = m ((c : Thread nD τ).loc main_arg0)
      (ix3 (⟨(rowOf t r).val / 2048, by omega⟩ : Fin 16) (⟨(rowOf t r).val % 2048, by omega⟩ : Fin 2048) x) := by
  rw [x_blk, x_entry]
  exact x_flat _ _ _

/-- The norm's gains. -/
theorem norm_at (c : Dev nD) (t : Fin cfg0.N) (x : Fin 1024) : iblk m c 1 t (ix2 (0 : Fin 1) x)
    = m ((c : Thread nD τ).loc main_arg1) (ix2 (0 : Fin 1) x) := by
  have idx : ∀ t : Fin grid0.N, win0_1.index t 0 = 0 ∧ win0_1.index t 1 = 0 := by decide +kernel
  have h1 : iblk m c 1 t (ix2 (0 : Fin 1) x) = V m c main_v12 (ix2 (0 : Fin 1) x) := by blk_ext [iblk, idx t]
  rw [h1, norm_entry]
  generalize m ((c : Thread nD τ).loc main_arg1) = w
  pointwise []

/-- The queries' gains. -/
theorem qgain_at (c : Dev nD) (t : Fin cfg0.N) (x : Fin 1024) : iblk m c 6 t (ix2 (0 : Fin 1) x)
    = m ((c : Thread nD τ).loc main_arg4)
      (ix3 (0 : Fin 1) (⟨x.val / 64, by omega⟩ : Fin 16) (⟨x.val % 64, by omega⟩ : Fin 64)) := by
  have idx : ∀ t : Fin grid0.N, win0_6.index t 0 = 0 ∧ win0_6.index t 1 = 0 := by decide +kernel
  have h1 : iblk m c 6 t (ix2 (0 : Fin 1) x) = V m c main_v14 (ix2 (0 : Fin 1) x) := by blk_ext [iblk, idx t]
  rw [h1, qgain_entry]
  generalize m ((c : Thread nD τ).loc main_arg4) = w
  pointwise []

/-- The keys' gains. -/
theorem kgain_at (c : Dev nD) (t : Fin cfg0.N) (x : Fin 1024) : iblk m c 7 t (ix2 (0 : Fin 1) x)
    = m ((c : Thread nD τ).loc main_arg5)
      (ix3 (0 : Fin 1) (⟨x.val / 64, by omega⟩ : Fin 16) (⟨x.val % 64, by omega⟩ : Fin 64)) := by
  have idx : ∀ t : Fin grid0.N, win0_7.index t 0 = 0 ∧ win0_7.index t 1 = 0 := by decide +kernel
  have h1 : iblk m c 7 t (ix2 (0 : Fin 1) x) = V m c main_v16 (ix2 (0 : Fin 1) x) := by blk_ext [iblk, idx t]
  rw [h1, kgain_entry]
  generalize m ((c : Thread nD τ).loc main_arg5) = w
  pointwise []

end Cert.Kernel3Ideal.In

end
-- ==== Proof.In.BlocksW.lean ====
/- What the input projection's kernel finds in its block of weights: the weights without the sixteen forget columns. -/
module

public import proofs.«01_k».proof.Proof.Gen.Kernel3Ideal.Frame.Runs
public import proofs.«01_k».proof.Proof.In.Model
public import Idealize.ShloMosaic.Lib.StableHlo.RunRead

@[expose] public section

set_option maxRecDepth 65536

noncomputable section

namespace Cert.Kernel3Ideal.In

open Cert.Kernel3Ideal Cert.Kernel3Ideal.Gen Idealize.ShloMosaic Idealize.ShloMosaic.TcCoe Idealize.SL.Sem

variable (m : (ℓ : Loc nD τ sig) → Buf (Elt Ideal) ℓ)

/-- The weights at the kernel's format. -/
def flat (w : (⟨S1x1024x7184, .f32⟩ : BufTy).Contents (Elt Ideal)) : (⟨S1024x7184, .bf16⟩ : BufTy).Contents (Elt Ideal) :=
  truncf (F := Ideal) .bf16 (shapeCast S1024x7184 w shapeCasts_S1x1024x7184_S1024x7184 : FVec Ideal S1024x7184 .f32) bitsLt_bf16_f32

/-- The weights' block before the region: the columns before and after the forget columns, joined. -/
theorem w_entry (c : Dev nD) : V m c main_v5
    = concatenate S1024x7168 1
        [⟨S1024x3072, extractStridedSlice S1024x3072 ![0, 0] (flat (m ((c : Thread nD τ).loc main_arg2))) slices_S1024x7184_S1024x3072_0_0⟩,
         ⟨S1024x4096, extractStridedSlice S1024x4096 ![0, 3088] (flat (m ((c : Thread nD τ).loc main_arg2))) slices_S1024x7184_S1024x4096_0_3088⟩]
        concatenates_S1024x3072_S1024x4096_S1024x7168_d1 := by
  after_reads_simp
  refine congrArg₂ (fun (a : (⟨S1024x3072, .bf16⟩ : BufTy).Contents (Elt Ideal)) (b : (⟨S1024x4096, .bf16⟩ : BufTy).Contents (Elt Ideal)) =>
    concatenate S1024x7168 1 [⟨S1024x3072, a⟩, ⟨S1024x4096, b⟩] concatenates_S1024x3072_S1024x4096_S1024x7168_d1) ?_ ?_
  · after_reads_simp
    rfl
  · after_reads_simp
    rfl

/-- A column before the forget columns. -/
theorem w_low (c : Dev nD) (t : Fin cfg0.N) (r : Fin 1024) (n : Fin 7168) (n' : Fin 7184) (hn : n.val < 3072) (e : n'.val = n.val) :
    iblk m c 2 t (ix2 r n) = m ((c : Thread nD τ).loc main_arg2) (ix3 (0 : Fin 1) r n') := by
  have idx : ∀ t : Fin grid0.N, win0_2.index t 0 = 0 ∧ win0_2.index t 1 = 0 := by decide +kernel
  have h1 : iblk m c 2 t (ix2 r n) = V m c main_v5 (ix2 r n) := by blk_ext [iblk, idx t]
  rw [h1, w_entry]
  generalize m ((c : Thread nD τ).loc main_arg2) = w
  pointwise [flat]
  rw [dif_pos hn]
  refine congrArg w (congrArg (ix3 _ _) (Fin.ext ?_))
  exact e.symm

/-- A column after the forget columns. -/
theorem w_high (c : Dev nD) (t : Fin cfg0.N) (r : Fin 1024) (n : Fin 7168) (n' : Fin 7184) (hn : ¬n.val < 3072) (e : n'.val = n.val + 16) :
    iblk m c 2 t (ix2 r n) = m ((c : Thread nD τ).loc main_arg2) (ix3 (0 : Fin 1) r n') := by
  have idx : ∀ t : Fin grid0.N, win0_2.index t 0 = 0 ∧ win0_2.index t 1 = 0 := by decide +kernel
  have h1 : iblk m c 2 t (ix2 r n) = V m c main_v5 (ix2 r n) := by blk_ext [iblk, idx t]
  rw [h1, w_entry]
  generalize m ((c : Thread nD τ).loc main_arg2) = w
  pointwise [flat]
  rw [dif_neg hn]
  refine congrArg w (congrArg (ix3 _ _) (Fin.ext ?_))
  show 3088 + (n.val - 3072) = n'.val
  omega

end Cert.Kernel3Ideal.In

end
-- ==== Proof.In.Final.lean ====
/- The first four arrays the input projection's kernel leaves are the reference's: the gate where the norm's gains and
   the gate's weights are real, the others always. -/
module

public import proofs.«01_k».proof.Proof.Gen.Kernel3Ideal.Value
public import proofs.«01_k».proof.Proof.In.Outs
public import proofs.«01_k».proof.Proof.In.Match
public import proofs.«01_k».proof.Proof.In.Blocks
public import proofs.«01_k».proof.Proof.In.BlocksW

@[expose] public section

set_option maxRecDepth 16384

noncomputable section

namespace Cert.Kernel3Ideal.In

open Cert.Kernel3Ideal Cert.Kernel3Ideal.Gen Cert.Reference3Ideal.Read Cert.Reference3Ideal.In Cert.KernelIdeal.Att Idealize.ShloMosaic Idealize.ShloMosaic.TcCoe Idealize.SL.Sem

variable (m : (ℓ : Loc nD τ sig) → Buf (Elt Ideal) ℓ)

/-- A section of the projection at a grid point, column by column of the reference's projection; `o'` is where the
    section begins among all columns, the forget columns counted. -/
theorem proj_at (c : Dev nD) (t : Fin cfg0.N) (o o' : ℕ) (ho : (o + 1024 ≤ 3072 ∧ o' = o) ∨ (3072 ≤ o ∧ o + 1024 ≤ 7168 ∧ o' = o + 16))
    (r : Fin 512) (n : Fin 1024) :
    proj m c t o (ix2 r n) = col (m ((c : Thread nD τ).loc main_arg0)) (m ((c : Thread nD τ).loc main_arg1))
      (m ((c : Thread nD τ).loc main_arg2)) (rowOf t r) (o' + n.val) := by
  refine proj_eq (m ((c : Thread nD τ).loc main_arg0)) (m ((c : Thread nD τ).loc main_arg1)) (m ((c : Thread nD τ).loc main_arg2))
    (iblk m c 0 t) (iblk m c 1 t) (iblk m c 2 t) (rowOf t) o o' (x_at m c t) (norm_at m c t) (fun k n => ?_) r n
  have hn := n.isLt
  rcases ho with ⟨h, rfl⟩ | ⟨h, h', rfl⟩
  · refine w_low m c t k (Fin.ofNat 7168 (o' + n.val)) (Fin.ofNat 7184 (o' + n.val)) ?_ ?_
    · simp only [Fin.val_ofNat]; omega
    · simp only [Fin.val_ofNat]; omega
  · refine w_high m c t k (Fin.ofNat 7168 (o + n.val)) (Fin.ofNat 7184 (o + 16 + n.val)) ?_ ?_
    · simp only [Fin.val_ofNat]; omega
    · simp only [Fin.val_ofNat]; omega

theorem emb13 (t : Fin cfg0.N) (p : Fin 8) (r : Fin 512) (l : Fin 128) :
    (win0_13.blk t).view.emb (ix3 p r l) = (ix3 p (rowOf t r) l : S8x32768x128.Idx) := by
  have idx : ∀ t : Fin grid0.N, win0_13.index t 0 = 0 ∧ win0_13.index t 1 = t.val ∧ win0_13.index t 2 = 0 := by decide +kernel
  blk_ext [rowOf, idx t]

theorem emb14 (t : Fin cfg0.N) (p : Fin 8) (r : Fin 512) (l : Fin 128) :
    (win0_14.blk t).view.emb (ix3 p r l) = (ix3 p (rowOf t r) l : S8x32768x128.Idx) := by
  have idx : ∀ t : Fin grid0.N, win0_14.index t 0 = 0 ∧ win0_14.index t 1 = t.val ∧ win0_14.index t 2 = 0 := by decide +kernel
  blk_ext [rowOf, idx t]

theorem emb15 (t : Fin cfg0.N) (p : Fin 8) (r : Fin 512) (l : Fin 128) :
    (win0_15.blk t).view.emb (ix3 p r l) = (ix3 p (rowOf t r) l : S8x32768x128.Idx) := by
  have idx : ∀ t : Fin grid0.N, win0_15.index t 0 = 0 ∧ win0_15.index t 1 = t.val ∧ win0_15.index t 2 = 0 := by decide +kernel
  blk_ext [rowOf, idx t]

theorem emb16 (t : Fin cfg0.N) (p : Fin 8) (r : Fin 512) (l : Fin 128) :
    (win0_16.blk t).view.emb (ix3 p r l) = (ix3 p (rowOf t r) l : S8x32768x128.Idx) := by
  have idx : ∀ t : Fin grid0.N, win0_16.index t 0 = 0 ∧ win0_16.index t 1 = t.val ∧ win0_16.index t 2 = 0 := by decide +kernel
  blk_ext [rowOf, idx t]

/-- After the run the queries' array is the reference's. -/
theorem final_q (c : Dev nD) :
    (dats m 0 c).arrAt 13 cfg0.N = val_main_v56 (F := Ideal) (m ((c : Thread nD τ).loc main_arg0))
      (m ((c : Thread nD τ).loc main_arg1)) (m ((c : Thread nD τ).loc main_arg2)) (m ((c : Thread nD τ).loc main_arg4)) := by
  refine (dats m 0 c).arrAt_eq_of_covers 13 _ (by decide +kernel) fun t hf y => ?_
  blk_simp
  rw [after0_13, q_left]
  idx_vars y
  exact (queries_eq _ _ _ (proj m c t 0) (rowOf t) y0 y1 y2 (proj_at m c t 0 0 (by omega)) (iblk m c 6 t) _ (qgain_at m c t)).trans
    (congrArg _ (emb13 t y0 y1 y2)).symm

/-- After the run the keys' array is the reference's. -/
theorem final_k (c : Dev nD) :
    (dats m 0 c).arrAt 14 cfg0.N = val_main_v60 (F := Ideal) (m ((c : Thread nD τ).loc main_arg0))
      (m ((c : Thread nD τ).loc main_arg1)) (m ((c : Thread nD τ).loc main_arg2)) (m ((c : Thread nD τ).loc main_arg5)) := by
  refine (dats m 0 c).arrAt_eq_of_covers 14 _ (by decide +kernel) fun t hf y => ?_
  blk_simp
  rw [after0_14, k_left]
  idx_vars y
  exact (keys_eq _ _ _ (proj m c t 1024) (rowOf t) y0 y1 y2 (proj_at m c t 1024 1024 (by omega)) (iblk m c 7 t) _ (kgain_at m c t)).trans
    (congrArg _ (emb14 t y0 y1 y2)).symm

/-- After the run the values' array is the reference's. -/
theorem final_v (c : Dev nD) :
    (dats m 0 c).arrAt 15 cfg0.N = val_main_v63 (F := Ideal) (m ((c : Thread nD τ).loc main_arg0))
      (m ((c : Thread nD τ).loc main_arg1)) (m ((c : Thread nD τ).loc main_arg2)) := by
  refine (dats m 0 c).arrAt_eq_of_covers 15 _ (by decide +kernel) fun t hf y => ?_
  blk_simp
  rw [after0_15, v_left]
  idx_vars y
  exact (values_eq _ _ _ (proj m c t 2048) (rowOf t) y0 y1 y2 (proj_at m c t 2048 2048 (by omega))).trans
    (congrArg _ (emb15 t y0 y1 y2)).symm

/-- After the run the gates' array is the reference's. -/
theorem final_g (c : Dev nD) (h1 : ∀ i, IsReal (m ((c : Thread nD τ).loc main_arg1) i))
    (h2 : ∀ (n k : Fin 1024), IsReal (m ((c : Thread nD τ).loc main_arg2) (ix3 (0 : Fin 1) k (Fin.ofNat 7184 (3088 + n.val) : Fin 7184)))) :
    (dats m 0 c).arrAt 16 cfg0.N = val_main_v66 (F := Ideal) (m ((c : Thread nD τ).loc main_arg0))
      (m ((c : Thread nD τ).loc main_arg1)) (m ((c : Thread nD τ).loc main_arg2)) := by
  refine (dats m 0 c).arrAt_eq_of_covers 16 _ (by decide +kernel) fun t hf y => ?_
  blk_simp
  rw [after0_16, g_left]
  idx_vars y
  exact (gates_eq _ _ _ (proj m c t 3072) (rowOf t) y0 y1 y2 (proj_at m c t 3072 3088 (by omega)) h1 h2).trans
    (congrArg _ (emb16 t y0 y1 y2)).symm

end Cert.Kernel3Ideal.In

end
-- ==== Proof.In.Pre.lean ====
/- The precondition of the input projection's value claim, unfolded: the norm's gains and the gate's weights are real. -/
module

public import proofs.«01_k».proof.Pre_finite_arguments
public import proofs.«01_k».proof.Proof.Att.Pre

@[expose] public section

set_option maxRecDepth 16384

noncomputable section

namespace Cert.Kernel3Ideal.In

open Cert.KernelIdeal.Att Idealize.ShloMosaic Idealize.ShloMosaic.TcCoe Idealize.SL.Sem

/-- The shape relations the precondition's program takes. -/
theorem pre_facts : Cert.Pre_finite_arguments.Facts := by
  constructor <;> decide

section

variable [Cert.Pre_finite_arguments.Facts]

/-- What the precondition says of the arrays. -/
theorem pre_real (A0 : FVec Ideal Cert.Pre_finite_arguments.S16x2048x1024 .f32) (A1 : FVec Ideal Cert.Pre_finite_arguments.S1x1024 .f32)
    (A2 : FVec Ideal Cert.Pre_finite_arguments.S1x1024x7184 .f32) (A3 A4 A5 A6 A7 A8 A9)
    (h : Cert.Pre_finite_arguments.fn (F := Ideal) A0 A1 A2 A3 A4 A5 A6 A7 A8 A9 = fun _ => 1#1) :
    (∀ i, IsReal (A1 i)) ∧ ∀ (n k : Fin 1024), IsReal (A2 (ix3 (0 : Fin 1) k (Fin.ofNat 7184 (3088 + n.val) : Fin 7184))) := by
  have h := congrFun h ix0
  unfold Cert.Pre_finite_arguments.fn at h
  dsimp only at h
  obtain ⟨h1, h2⟩ := and_eq_one _ _ h
  refine ⟨fun i => isReal_of_cmp _ ?_, fun n k => ?_⟩
  · exact Host.reduce_andi_all _ _ _ _ _ h1 i
  · have hr := isReal_of_cmp _ (Host.reduce_andi_all _ _ _ _ _ h2 (ix3 (0 : Fin 1) k n))
    have he : extractStridedSlice Cert.Pre_finite_arguments.S1x1024x1024 ![0, 0, 3088] A2
        Cert.Pre_finite_arguments.Facts.slices_S1x1024x7184_S1x1024x1024_0_0_3088 (ix3 (0 : Fin 1) k n)
          = A2 (ix3 (0 : Fin 1) k (Fin.ofNat 7184 (3088 + n.val) : Fin 7184)) := by
      pointwise []
      refine congrArg (fun j => A2 (ix3 (0 : Fin 1) k j)) (Fin.ext ?_)
      simp only [Fin.val_ofNat]
      omega
    rw [← he]
    exact hr

end

end Cert.Kernel3Ideal.In

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Out.Body
public import proofs.«01_k».proof.Proof.Att.Final
public import proofs.«01_k».proof.Proof.Att.Pre
public import proofs.«01_k».proof.Proof.In.Final
public import proofs.«01_k».proof.Proof.In.Pre
public import Idealize.ShloMosaic.Adequacy

@[expose] public section

namespace Cert.Proof

open Idealize.ShloMosaic Idealize.ShloMosaic.TcCoe Idealize.SL.Sem

/-- The attention's reference runs on the host alone: it ends with its arguments unchanged, and it declares no
    semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The output projection's reference, in the same way. -/
theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The input projection's reference, in the same way; it has four results before its arguments. -/
theorem frame_reference3 : Cert.quiescent_Reference3Ideal := fun m ρ _ =>
  (θ_run Cert.Reference3Ideal.defs _ _).mono
    (fun r h => ⟨fun c => (h c).2.2.2.2, sem_eq_zero_of_no_sems (by decide) r.2⟩)
    (Cert.Reference3Ideal.Value.run (F := Ideal) m ρ)

/-- The output projection and its reference end with the same result. -/
theorem value2 : Cert.algebraic_Kernel2Ideal_Reference2Ideal := by
  intro m ρ m' ρ' _ hagree
  refine ⟨fun c => Cert.Reference2Ideal.Read.val_main_v11 (F := Ideal)
    (m ((c.tc : Thread _ Cert.Kernel2Ideal.τ).loc Cert.Kernel2Ideal.main_arg0))
    (m ((c.tc : Thread _ Cert.Kernel2Ideal.τ).loc Cert.Kernel2Ideal.main_arg1))
    (m ((c.tc : Thread _ Cert.Kernel2Ideal.τ).loc Cert.Kernel2Ideal.main_arg2))
    (m ((c.tc : Thread _ Cert.Kernel2Ideal.τ).loc Cert.Kernel2Ideal.main_arg3)), ?_, ?_⟩
  · exact (θ_run Cert.Kernel2Ideal.defs _ _).mono
      (fun r h c => ⟨(h c).1.trans (Cert.Kernel2Ideal.Out.final m c), (h c).2⟩)
      (Cert.Kernel2Ideal.Value.run_blocks (F := Ideal) m ρ)
  · refine (θ_run Cert.Reference2Ideal.defs _ _).mono (fun r h c => ⟨(h c).1.trans ?_, (h c).2⟩)
      (Cert.Reference2Ideal.Value.run (F := Ideal) m' ρ')
    rw [(hagree c).1, (hagree c).2.1, (hagree c).2.2.1, (hagree c).2.2.2]
    exact Cert.Reference2Ideal.Read.val_main_v11_eq _ _ _ _

/-- The attention and its reference end with the same result, where the queries, the keys and their decay features are real. -/
theorem value [Cert.Pre_finite_logits.Facts] : Cert.algebraic_KernelIdeal_ReferenceIdeal_pre_finite_logits := by
  intro m ρ m' ρ' hpre hagree
  refine ⟨fun c => Cert.ReferenceIdeal.Read.val_main_v51 (F := Ideal)
    (m ((c.tc : Thread _ Cert.KernelIdeal.τ).loc Cert.KernelIdeal.main_arg0))
    (m ((c.tc : Thread _ Cert.KernelIdeal.τ).loc Cert.KernelIdeal.main_arg1))
    (m ((c.tc : Thread _ Cert.KernelIdeal.τ).loc Cert.KernelIdeal.main_arg2))
    (m ((c.tc : Thread _ Cert.KernelIdeal.τ).loc Cert.KernelIdeal.main_arg3))
    (m ((c.tc : Thread _ Cert.KernelIdeal.τ).loc Cert.KernelIdeal.main_arg4))
    (m ((c.tc : Thread _ Cert.KernelIdeal.τ).loc Cert.KernelIdeal.main_arg5)), ?_, ?_⟩
  · refine (θ_run Cert.KernelIdeal.defs _ _).mono (fun r h c => ⟨(h c).1.trans ?_, (h c).2⟩)
      (Cert.KernelIdeal.Value.run_blocks (F := Ideal) m ρ)
    obtain ⟨h0, h1, h3, h4⟩ := Cert.KernelIdeal.Att.pre_real _ _ _ _ _ _ (hpre c)
    exact Cert.KernelIdeal.Att.final m c h0 h1 h3 h4
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v51_eq m' c).trans ?_
    rw [(hagree c).1, (hagree c).2.1, (hagree c).2.2.1, (hagree c).2.2.2.1, (hagree c).2.2.2.2.1, (hagree c).2.2.2.2.2]

/-- The input projection and its reference end with the same queries, keys, values and gate, where the norm's gains
    and the gate's weights are real. -/
theorem value3 [Cert.Pre_finite_arguments.Facts] : Cert.algebraic_Kernel3Ideal_Reference3Ideal_pre_finite_arguments := by
  intro m ρ m' ρ' hpre hagree
  refine ⟨fun c => Cert.Reference3Ideal.Read.val_main_v56 (F := Ideal)
    (m ((c.tc : Thread _ Cert.Kernel3Ideal.τ).loc Cert.Kernel3Ideal.main_arg0))
    (m ((c.tc : Thread _ Cert.Kernel3Ideal.τ).loc Cert.Kernel3Ideal.main_arg1))
    (m ((c.tc : Thread _ Cert.Kernel3Ideal.τ).loc Cert.Kernel3Ideal.main_arg2))
    (m ((c.tc : Thread _ Cert.Kernel3Ideal.τ).loc Cert.Kernel3Ideal.main_arg4)),
   fun c => Cert.Reference3Ideal.Read.val_main_v60 (F := Ideal)
    (m ((c.tc : Thread _ Cert.Kernel3Ideal.τ).loc Cert.Kernel3Ideal.main_arg0))
    (m ((c.tc : Thread _ Cert.Kernel3Ideal.τ).loc Cert.Kernel3Ideal.main_arg1))
    (m ((c.tc : Thread _ Cert.Kernel3Ideal.τ).loc Cert.Kernel3Ideal.main_arg2))
    (m ((c.tc : Thread _ Cert.Kernel3Ideal.τ).loc Cert.Kernel3Ideal.main_arg5)),
   fun c => Cert.Reference3Ideal.Read.val_main_v63 (F := Ideal)
    (m ((c.tc : Thread _ Cert.Kernel3Ideal.τ).loc Cert.Kernel3Ideal.main_arg0))
    (m ((c.tc : Thread _ Cert.Kernel3Ideal.τ).loc Cert.Kernel3Ideal.main_arg1))
    (m ((c.tc : Thread _ Cert.Kernel3Ideal.τ).loc Cert.Kernel3Ideal.main_arg2)),
   fun c => Cert.Reference3Ideal.Read.val_main_v66 (F := Ideal)
    (m ((c.tc : Thread _ Cert.Kernel3Ideal.τ).loc Cert.Kernel3Ideal.main_arg0))
    (m ((c.tc : Thread _ Cert.Kernel3Ideal.τ).loc Cert.Kernel3Ideal.main_arg1))
    (m ((c.tc : Thread _ Cert.Kernel3Ideal.τ).loc Cert.Kernel3Ideal.main_arg2)), ?_, ?_⟩
  · refine (θ_run Cert.Kernel3Ideal.defs _ _).mono (fun r h c => ?_) (Cert.Kernel3Ideal.Value.run_blocks (F := Ideal) m ρ)
    obtain ⟨h1, h2⟩ := Cert.Kernel3Ideal.In.pre_real _ _ _ _ _ _ _ _ _ _ (hpre c)
    obtain ⟨r0, r1, r2, r3, _, _, _, kept⟩ := h c
    exact ⟨r0.trans (Cert.Kernel3Ideal.In.final_q m c), r1.trans (Cert.Kernel3Ideal.In.final_k m c),
      r2.trans (Cert.Kernel3Ideal.In.final_v m c), r3.trans (Cert.Kernel3Ideal.In.final_g m c h1 h2), kept⟩
  · refine (θ_run Cert.Reference3Ideal.defs _ _).mono (fun r h c => ?_) (Cert.Reference3Ideal.Value.run (F := Ideal) m' ρ')
    obtain ⟨r0, r1, r2, r3, kept⟩ := h c
    obtain ⟨a0, a1, a2, _, a4, a5, _⟩ := hagree c
    refine ⟨r0.trans ((Cert.Reference3Ideal.Read.val_main_v56_eq m' c).trans ?_),
      r1.trans ((Cert.Reference3Ideal.Read.val_main_v60_eq m' c).trans ?_),
      r2.trans ((Cert.Reference3Ideal.Read.val_main_v63_eq _ _ _).trans ?_),
      r3.trans ((Cert.Reference3Ideal.Read.val_main_v66_eq _ _ _).trans ?_), kept⟩
    · rw [a0, a1, a2, a4]
    · rw [a0, a1, a2, a5]
    · rw [a0, a1, a2]
    · rw [a0, a1, a2]

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.KernelIdeal.Att.pre_facts,
  Cert.Kernel3Ideal.In.pre_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ,
  fun m ρ _ => Cert.Kernel3Ideal.Gen.frame m ρ, frame_reference3, fun m ρ _ => frame_reference3 m ρ trivial,
  IdealRules.named_const.statement Cert.KernelIdeal.κ "mask" .f32 0xF149F2CA#32 ⊥ rfl, @value Cert.KernelIdeal.Att.pre_facts, trivial, value2, trivial,
  @value3 Cert.Kernel3Ideal.In.pre_facts⟩

end Cert.Proof

end
